-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_rows_finite [hPre_in_rows_finite : Cert.Pre_in_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows_finite [hPre_in_rows_finite : Cert.Pre_in_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_rows_finite [hKernelIdeal : Cert.KernelIdeal.Facts] [hPre_in_rows_finite : Cert.Pre_in_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_rows_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_rows_finite [hReferenceIdeal : Cert.ReferenceIdeal.Facts] [hPre_in_rows_finite : Cert.Pre_in_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_rows_finite [hKernelIdeal : Cert.KernelIdeal.Facts] [hReferenceIdeal : Cert.ReferenceIdeal.Facts] [hPre_in_rows_finite : Cert.Pre_in_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_rows : Cert.Pre_in_rows.Facts) (hPre_in_rows_finite : Cert.Pre_in_rows_finite.Facts),
    quiescent_Kernel (hKernel := hKernel) (hPre_in_rows := hPre_in_rows)
    ∧ quiescent_KernelIdeal (hKernelIdeal := hKernelIdeal) (hPre_in_rows := hPre_in_rows)
    ∧ quiescent_KernelIdeal_pre_in_rows_finite (hKernelIdeal := hKernelIdeal) (hPre_in_rows_finite := hPre_in_rows_finite)
    ∧ quiescent_ReferenceIdeal (hReferenceIdeal := hReferenceIdeal)
    ∧ quiescent_ReferenceIdeal_pre_in_rows_finite (hReferenceIdeal := hReferenceIdeal) (hPre_in_rows_finite := hPre_in_rows_finite)
    ∧ preserves_Kernel_KernelIdeal
    ∧ algebraic_KernelIdeal_ReferenceIdeal_pre_in_rows_finite (hKernelIdeal := hKernelIdeal) (hReferenceIdeal := hReferenceIdeal) (hPre_in_rows_finite := hPre_in_rows_finite)
-- ==== Pre_in_rows.lean ====
abbrev S10000x128 : Shape := ⟨2, ![10000, 128]⟩
abbrev S320000x16 : Shape := ⟨2, ![320000, 16]⟩
abbrev S320000 : Shape := ⟨1, ![320000]⟩
abbrev S16x128 : Shape := ⟨2, ![16, 128]⟩
abbrev S384x128 : Shape := ⟨2, ![384, 128]⟩
abbrev S128 : Shape := ⟨1, ![128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S10000x128 .f32) (main_arg1 : FVec F S320000x16 .f32) (main_arg2 : IVec S320000 32) (main_arg3 : IVec S320000 32) (main_arg4 : FVec F S16x128 .f32) (main_arg5 : FVec F S384x128 .f32) (main_arg6 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg2 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_c_3 : IVec S_ 32 := constantI S_ 32 0#32
  let main_v7 : IVec S320000 32 := broadcastInDim S320000 ![] bcast_S_S320000 main_c_3
  let main_v8 : IVec S320000 1 := cmpi .sge main_arg3 main_v7
  let main_c_4 : IVec S_ 1 := constantI S_ 1 1#1
  let main_v9 : IVec S_ 1 := (fun x v => Host.reduce IntOp.andi x v reducesTo_S320000_S_d0 h_S_) main_v8 main_c_4
  let main_v10 : IVec S_ 1 := andi main_v6 main_v9
  let main_c_5 : IVec S_ 32 := constantI S_ 32 10000#32
  let main_v11 : IVec S320000 32 := broadcastInDim S320000 ![] bcast_S_S320000 main_c_5
  let main_v12 : IVec S320000 1 := cmpi .slt main_arg3 main_v11
  let main_c_6 : IVec S_ 1 := constantI S_ 1 1#1
  let main_v13 : IVec S_ 1 := (fun x v => Host.reduce IntOp.andi x v reducesTo_S320000_S_d0 h_S_) main_v12 main_c_6
  let main_v14 : IVec S_ 1 := andi main_v10 main_v13
  main_v14
-- ==== Pre_in_rows_finite.lean ====
abbrev S10000x128 : Shape := ⟨2, ![10000, 128]⟩
abbrev S320000x16 : Shape := ⟨2, ![320000, 16]⟩
abbrev S320000 : Shape := ⟨1, ![320000]⟩
abbrev S16x128 : Shape := ⟨2, ![16, 128]⟩
abbrev S384x128 : Shape := ⟨2, ![384, 128]⟩
abbrev S128 : Shape := ⟨1, ![128]⟩
abbrev S_ : Shape := ⟨0, ![]⟩
abbrev S128x128 : Shape := ⟨2, ![128, 128]⟩

class Facts : Prop where
  bcast_S_S320000 : S_.BroadcastsInDim S320000 (![] : Fin 0 → Fin S320000.rank)
  reducesTo_S320000_S_d0 : S320000.ReducesTo [0] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S16x128 : S_.BroadcastsInDim S16x128 (![] : Fin 0 → Fin S16x128.rank)
  reducesTo_S16x128_S_d0_1 : S16x128.ReducesTo [0, 1] S_
  slices_S384x128_S128x128_256_0 : S384x128.Slices ![256, 0] S128x128
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S16x128 .f32) (main_arg5 : FVec F S384x128 .f32) (main_v14 : IVec S_ 1) (main_v15 : FVec F S320000x16 .f32) : IVec S_ 1 :=
  let main_cst : FVec F S_ .f32 := constant S_ .f32 0x7F800000#32
  let main_v16 : FVec F S320000x16 .f32 := broadcastInDim S320000x16 ![] bcast_S_S320000x16 main_cst
  let main_v17 : IVec S320000x16 1 := cmpf .olt main_v15 main_v16
  let main_c_7 : IVec S_ 1 := constantI S_ 1 1#1
  let main_v18 : IVec S_ 1 := (fun x v => Host.reduce IntOp.andi x v reducesTo_S320000x16_S_d0_1 h_S_) main_v17 main_c_7
  let main_v19 : IVec S_ 1 := andi main_v14 main_v18
  let main_v20 : FVec F S16x128 .f32 := Host.absf main_arg4
  let main_cst_8 : FVec F S_ .f32 := constant S_ .f32 0x7F800000#32
  let main_v21 : FVec F S16x128 .f32 := broadcastInDim S16x128 ![] bcast_S_S16x128 main_cst_8
  let main_v22 : IVec S16x128 1 := cmpf .olt main_v20 main_v21
  let main_c_9 : IVec S_ 1 := constantI S_ 1 1#1
  let main_v23 : IVec S_ 1 := (fun x v => Host.reduce IntOp.andi x v reducesTo_S16x128_S_d0_1 h_S_) main_v22 main_c_9
  let main_v24 : IVec S_ 1 := andi main_v19 main_v23
  let main_v25 : FVec F S128x128 .f32 := (extractStridedSlice S128x128 ![256, 0] · slices_S384x128_S128x128_256_0) main_arg5
  let main_v26 : FVec F S128x128 .f32 := Host.absf main_v25
  let main_cst_10 : FVec F S_ .f32 := constant S_ .f32 0x7F800000#32
  let main_v27 : FVec F S128x128 .f32 := broadcastInDim S128x128 ![] bcast_S_S128x128 main_cst_10
  let main_v28 : IVec S128x128 1 := cmpf .olt main_v26 main_v27
  let main_c_11 : IVec S_ 1 := constantI S_ 1 1#1
  let main_v29 : IVec S_ 1 := (fun x v => Host.reduce IntOp.andi x v reducesTo_S128x128_S_d0_1 h_S_) main_v28 main_c_11
  let main_v30 : IVec S_ 1 := andi main_v24 main_v29
  main_v30

def fn {F : FTy → Type} [FloatOps F] (main_arg0 : FVec F S10000x128 .f32) (main_arg1 : FVec F S320000x16 .f32) (main_arg2 : IVec S320000 32) (main_arg3 : IVec S320000 32) (main_arg4 : FVec F S16x128 .f32) (main_arg5 : FVec F S384x128 .f32) (main_arg6 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg2 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_c_3 : IVec S_ 32 := constantI S_ 32 0#32
  let main_v7 : IVec S320000 32 := broadcastInDim S320000 ![] bcast_S_S320000 main_c_3
  let main_v8 : IVec S320000 1 := cmpi .sge main_arg3 main_v7
  let main_c_4 : IVec S_ 1 := constantI S_ 1 1#1
  let main_v9 : IVec S_ 1 := (fun x v => Host.reduce IntOp.andi x v reducesTo_S320000_S_d0 h_S_) main_v8 main_c_4
  let main_v10 : IVec S_ 1 := andi main_v6 main_v9
  let main_c_5 : IVec S_ 32 := constantI S_ 32 10000#32
  let main_v11 : IVec S320000 32 := broadcastInDim S320000 ![] bcast_S_S320000 main_c_5
  let main_v12 : IVec S320000 1 := cmpi .slt main_arg3 main_v11
  let main_c_6 : IVec S_ 1 := constantI S_ 1 1#1
  let main_v13 : IVec S_ 1 := (fun x v => Host.reduce IntOp.andi x v reducesTo_S320000_S_d0 h_S_) main_v12 main_c_6
  let main_v14 : IVec S_ 1 := andi main_v10 main_v13
  let main_v15 : FVec F S320000x16 .f32 := Host.absf main_arg1
  fn_part1 (F := F) main_arg4 main_arg5 main_v14 main_v15
-- ==== Kernel.lean ====
abbrev S10000x128 : Shape := ⟨2, ![10000, 128]⟩
abbrev S320000x16 : Shape := ⟨2, ![320000, 16]⟩
abbrev S320000 : Shape := ⟨1, ![320000]⟩
abbrev S16x128 : Shape := ⟨2, ![16, 128]⟩
abbrev S384x128 : Shape := ⟨2, ![384, 128]⟩
abbrev S128 : Shape := ⟨1, ![128]⟩
abbrev S128x128 : Shape := ⟨2, ![128, 128]⟩
abbrev S320000x128 : Shape := ⟨2, ![320000, 128]⟩
abbrev S400 : Shape := ⟨1, ![400]⟩
abbrev S400x128 : Shape := ⟨2, ![400, 128]⟩
abbrev S_ : Shape := ⟨0, ![]⟩
abbrev S1x128 : Shape := ⟨2, ![1, 128]⟩
abbrev S4000x128 : Shape := ⟨2, ![4000, 128]⟩
abbrev S4000x16 : Shape := ⟨2, ![4000, 16]⟩

abbrev nBuf : Table → Nat
  | .hbm => 17
  | .local .tc .vmem => 18
  | .local .scVector .vmem => 4
  | _ => 0

abbrev bufTy : (tb : Table) → Fin (nBuf tb) → BufTy
  | .hbm, ⟨0, _⟩ => ⟨S10000x128, .f32⟩
  | .hbm, ⟨1, _⟩ => ⟨S320000x16, .f32⟩
  | .hbm, ⟨2, _⟩ => ⟨S320000, .i32⟩
  | .hbm, ⟨3, _⟩ => ⟨S320000, .i32⟩
  | .hbm, ⟨4, _⟩ => ⟨S16x128, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S10000x128, .f32⟩
  | .hbm, ⟨11, _⟩ => ⟨S10000x128, .f32⟩
  | .hbm, ⟨12, _⟩ => ⟨S16x128, .f32⟩
  | .hbm, ⟨13, _⟩ => ⟨S320000x128, .f32⟩
  | .hbm, ⟨14, _⟩ => ⟨S320000x128, .f32⟩
  | .hbm, ⟨15, _⟩ => ⟨S1x128, .f32⟩
  | .hbm, ⟨16, _⟩ => ⟨S320000x128, .f32⟩
  | .local .tc .vmem, ⟨0, _⟩ => ⟨S10000x128, .f32⟩
  | .local .tc .vmem, ⟨1, _⟩ => ⟨S128x128, .f32⟩
  | .local .tc .vmem, ⟨2, _⟩ => ⟨S128x128, .f32⟩
  | .local .tc .vmem, ⟨3, _⟩ => ⟨S16x128, .f32⟩
  | .local .tc .vmem, ⟨4, _⟩ => ⟨S128x128, .f32⟩
  | .local .tc .vmem, ⟨5, _⟩ => ⟨S10000x128, .f32⟩
  | .local .tc .vmem, ⟨6, _⟩ => ⟨S10000x128, .f32⟩
  | .local .tc .vmem, ⟨7, _⟩ => ⟨S16x128, .f32⟩
  | .local .tc .vmem, ⟨8, _⟩ => ⟨S4000x128, .f32⟩
  | .local .tc .vmem, ⟨9, _⟩ => ⟨S4000x128, .f32⟩
  | .local .tc .vmem, ⟨10, _⟩ => ⟨S4000x128, .f32⟩
  | .local .tc .vmem, ⟨11, _⟩ => ⟨S4000x128, .f32⟩
  | .local .tc .vmem, ⟨12, _⟩ => ⟨S4000x16, .f32⟩
  | .local .tc .vmem, ⟨13, _⟩ => ⟨S4000x16, .f32⟩
  | .local .tc .vmem, ⟨14, _⟩ => ⟨S16x128, .f32⟩
  | .local .tc .vmem, ⟨15, _⟩ => ⟨S1x128, .f32⟩
  | .local .tc .vmem, ⟨16, _⟩ => ⟨S4000x128, .f32⟩
  | .local .tc .vmem, ⟨17, _⟩ => ⟨S4000x128, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | .local .scVector .vmem, ⟨3, _⟩ => ⟨S400x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v3_0_scv : Ref sig .scVector := ⟨.hbm, 10, rfl⟩
abbrev main_v3_1_scv : Ref sig .scVector := ⟨.hbm, 11, rfl⟩
abbrev main_arg3_scv : Ref sig .scVector := ⟨.hbm, 3, rfl⟩
abbrev main_arg2_scv : Ref sig .scVector := ⟨.hbm, 2, rfl⟩
abbrev main_v4_0_scv : Ref sig .scVector := ⟨.hbm, 13, rfl⟩
abbrev main_v4_1_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg14 : BitVec 32 := Scf.iv c0_i32_0 c1_i32 k1_t1
  let c400_i32 : BitVec 32 := 400#32
  let v4 : BitVec 32 := Scalar.muli arg14 c400_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg14 : BitVec 32 := Scf.iv c0_i32_0 c1_i32 k1_t1
  let c400_i32 : BitVec 32 := 400#32
  let v4 : BitVec 32 := Scalar.muli arg14 c400_i32
  let v5 : BitVec 32 := Scalar.addi v2 v4
  let c0_i32_10_r2 : BitVec 32 := 0#32
  ![v5.toNat, 0]
abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S320000x16 : Shape := ⟨2, ![320000, 16]⟩
abbrev S320000 : Shape := ⟨1, ![320000]⟩
abbrev S16x128 : Shape := ⟨2, ![16, 128]⟩
abbrev S384x128 : Shape := ⟨2, ![384, 128]⟩
abbrev S128 : Shape := ⟨1, ![128]⟩
abbrev S320000x128 : Shape := ⟨2, ![320000, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x384 : Shape := ⟨2, ![320000, 384]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S320000, .i32⟩
  | .hbm, ⟨3, _⟩ => ⟨S320000, .i32⟩
  | .hbm, ⟨4, _⟩ => ⟨S16x128, .f32⟩
  | .hbm, ⟨5, _⟩ => ⟨S384x128, .f32⟩
  | .hbm, ⟨6, _⟩ => ⟨S128, .f32⟩
  | .hbm, ⟨7, _⟩ => ⟨S320000x128, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S1, .i32⟩
  | .hbm, ⟨40, _⟩ => ⟨S_, .i32⟩
  | .hbm, ⟨41, _⟩ => ⟨S320000x1, .i32⟩
  | .hbm, ⟨42, _⟩ => ⟨S320000x1, .i1⟩
  | .hbm, ⟨43, _⟩ => ⟨S1x1, .i32⟩
  | .hbm, ⟨44, _⟩ => ⟨S320000x1, .i32⟩
  | .hbm, ⟨45, _⟩ => ⟨S320000x1, .i1⟩
  | .hbm, ⟨46, _⟩ => ⟨S320000x1, .i1⟩
  | .hbm, ⟨47, _⟩ => ⟨S_, .i1⟩
  | .hbm, ⟨48, _⟩ => ⟨S320000, .i1⟩
  | .hbm, ⟨49, _⟩ => ⟨S320000x128, .f32⟩
  | .hbm, ⟨50, _⟩ => ⟨S320000x128, .i1⟩
  | .hbm, ⟨51, _⟩ => ⟨S_, .f32⟩
  | .hbm, ⟨52, _⟩ => ⟨S320000x128, .f32⟩
  | .hbm, ⟨53, _⟩ => ⟨S320000x128, .f32⟩
  | .hbm, ⟨54, _⟩ => ⟨S320000x384, .f32⟩
  | .hbm, ⟨55, _⟩ => ⟨S320000x128, .f32⟩
  | .hbm, ⟨56, _⟩ => ⟨S1x128, .f32⟩
  | .hbm, ⟨57, _⟩ => ⟨S320000x128, .f32⟩
  | .hbm, ⟨58, _⟩ => ⟨S320000x128, .f32⟩
  | .hbm, ⟨59, _⟩ => ⟨S_, .f32⟩
  | .hbm, ⟨60, _⟩ => ⟨S320000x128, .f32⟩
  | .hbm, ⟨61, _⟩ => ⟨S320000x128, .f32⟩
  | .hbm, ⟨62, _⟩ => ⟨S320000x128, .f32⟩
  | .hbm, ⟨63, _⟩ => ⟨S320000x128, .f32⟩
  | .hbm, ⟨64, _⟩ => ⟨S_, .f32⟩
  | .hbm, ⟨65, _⟩ => ⟨S320000x128, .f32⟩
  | .hbm, ⟨66, _⟩ => ⟨S320000x128, .f32⟩
  | .hbm, ⟨67, _⟩ => ⟨S_, .f32⟩
  | .hbm, ⟨68, _⟩ => ⟨S320000x128, .f32⟩
  | .hbm, ⟨69, _⟩ => ⟨S320000x128, .f32⟩
  | .hbm, ⟨70, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst_0 : Ref sig .tc := ⟨.hbm, 64, rfl⟩
abbrev main_v12 : Ref sig .tc := ⟨.hbm, 65, rfl⟩
abbrev main_v13 : Ref sig .tc := ⟨.hbm, 66, rfl⟩
abbrev main_cst_1 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩

abbrev nD : Nat := 1
abbrev τ : Topo := Topo.v7x

variable {F : FTy → Type} [FloatOps F]
-- ==== Proof.Pre.lean ====
/-
  What the two preconditions say of the arguments, for any float values: every index word names a row of the node table;
  and, over the extended reals, that the radial basis, its weights and the last third of the edge weights hold no infinity.
-/
module

public import proofs.«01_k».proof.Proof.Gen.Pre_in_rows
public import proofs.«01_k».proof.Proof.Gen.Pre_in_rows_finite
public import Idealize.ShloMosaic.Lib.ReduceAll
public import Idealize.ShloMosaic.Lib.KernelVsHost
public import Idealize.ShloMosaic.PureOps.Ideal.Laws

@[expose] public section

namespace Cert.Pf

open Idealize.ShloMosaic

/-- A word that is at least zero and below ten thousand, both compared signed, is below ten thousand as a natural. -/
theorem toNat_lt_of_words (v : BitVec 32) (h0 : IntOp.cmpi .sge v 0#32 = 1#1) (h1 : IntOp.cmpi .slt v 10000#32 = 1#1) :
    v.toNat < 10000 := by
  rw [IntOp.cmpi_sge] at h0
  rw [IntOp.cmpi_slt] at h1
  rw [BitVec.toInt_eq_toNat_cond v] at h0 h1
  simp only [BitVec.reduceToInt] at h0 h1
  split at h0 <;> omega

section Words

variable {s t u : Shape} {axes : List (Fin s.rank)}

/-- An index array all of whose words compare at least zero and below ten thousand has every word below ten thousand. -/
theorem rows_of_all [Subsingleton t.Idx] (idx lo hi : IVec s 32) (one₁ one₂ : u.Idx → BitVec 1) (h : s.ReducesTo axes t)
    (hu : 0 < u.numel) (j : t.Idx) (hlo : ∀ i, lo i = 0#32) (hhi : ∀ i, hi i = 10000#32)
    (e0 : Host.reduce IntOp.andi (cmpi .sge idx lo) one₁ h hu j = 1#1)
    (e1 : Host.reduce IntOp.andi (cmpi .slt idx hi) one₂ h hu j = 1#1) (i : s.Idx) : (idx i).toNat < 10000 := by
  have a0 := Host.reduce_andi_all _ _ h hu j e0 i
  have a1 := Host.reduce_andi_all _ _ h hu j e1 i
  refine toNat_lt_of_words _ ?_ ?_
  · rw [← hlo i]; exact a0
  · rw [← hhi i]; exact a1

end Words

/-- An extended real whose absolute value is below plus infinity is neither infinity. -/
theorem ne_inf_of_abs_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  rw [← Ideal.xori_weird_eq_hostAbsf_olt_inf] at h
  by_contra hn
  have hw : FloatOps.weird x = 1#1 := by
    show BitVec.ofBool (decide ((x : EReal) = ⊤ ∨ (x : EReal) = ⊥)) = 1#1
    rw [decide_eq_true (by tauto)]; rfl
  rw [hw] at h
  exact absurd h (by decide)

section Finite

variable {s t u : Shape} {axes : List (Fin s.rank)}

/-- An array all of whose absolute values compare below plus infinity holds no infinity. -/
theorem finite_of_all [Subsingleton t.Idx] (x inf : FVec Ideal s .f32) (one : u.Idx → BitVec 1) (h : s.ReducesTo axes t)
    (hu : 0 < u.numel) (j : t.Idx) (hinf : ∀ i, inf i = FloatOps.ofBits (F := Ideal) .f32 0x7F800000#32)
    (e : Host.reduce IntOp.andi (cmpf .olt (Host.absf x) inf) one h hu j = 1#1) (i : s.Idx) :
    (x i : EReal) ≠ ⊤ ∧ (x i : EReal) ≠ ⊥ := by
  have a := Host.reduce_andi_all _ _ h hu j e i
  refine ne_inf_of_abs_lt _ ?_
  rw [← hinf i]; exact a

end Finite

instance : Subsingleton Cert.Pre_in_rows.S_.Idx := ⟨fun a b => funext fun k => k.elim0⟩
instance : Subsingleton Cert.Pre_in_rows_finite.S_.Idx := ⟨fun a b => funext fun k => k.elim0⟩

/-- The index of a scalar. -/
abbrev j0 : Cert.Pre_in_rows.S_.Idx := fun k => k.elim0
abbrev j0f : Cert.Pre_in_rows_finite.S_.Idx := fun k => k.elim0

/-- The first precondition gives: every word of either index array is below ten thousand. -/
theorem rows_of_pre {F : FTy → Type} [FloatOps F] (a0 a1 a2 a3 a4 a5 a6)
    (h : Cert.Pre_in_rows.fn (F := F) a0 a1 a2 a3 a4 a5 a6 = fun _ => 1#1) :
    (∀ x, (a3 x).toNat < 10000) ∧ ∀ x, (a2 x).toNat < 10000 := by
  have e := congrFun h j0
  obtain ⟨e, e3⟩ := IntOp.andi_eq_one.1 e
  obtain ⟨e, e2⟩ := IntOp.andi_eq_one.1 e
  obtain ⟨e0, e1⟩ := IntOp.andi_eq_one.1 e
  exact ⟨rows_of_all a3 _ _ _ _ _ _ j0 (fun _ => rfl) (fun _ => rfl) e2 e3,
    rows_of_all a2 _ _ _ _ _ _ j0 (fun _ => rfl) (fun _ => rfl) e0 e1⟩

/-- The second precondition gives the same of the index arrays, and that the radial basis, its weights and the rows of the
    edge weights from 256 on hold no infinity. -/
theorem rows_of_pre_finite (a0 a1 a2 a3 a4 a5 a6)
    (h : Cert.Pre_in_rows_finite.fn (F := Ideal) a0 a1 a2 a3 a4 a5 a6 = fun _ => 1#1) :
    ((∀ x, (a3 x).toNat < 10000) ∧ ∀ x, (a2 x).toNat < 10000)
      ∧ (∀ i, (a1 i : EReal) ≠ ⊤ ∧ (a1 i : EReal) ≠ ⊥) ∧ (∀ i, (a4 i : EReal) ≠ ⊤ ∧ (a4 i : EReal) ≠ ⊥)
      ∧ ∀ i, (extractStridedSlice Cert.Pre_in_rows_finite.S128x128 ![256, 0] a5 Cert.Pre_in_rows_finite.Facts.slices_S384x128_S128x128_256_0 i : EReal) ≠ ⊤
        ∧ (extractStridedSlice Cert.Pre_in_rows_finite.S128x128 ![256, 0] a5 Cert.Pre_in_rows_finite.Facts.slices_S384x128_S128x128_256_0 i : EReal) ≠ ⊥ := by
  have e := congrFun h j0f
  unfold Cert.Pre_in_rows_finite.fn Cert.Pre_in_rows_finite.fn_part1 at e
  obtain ⟨e, f5⟩ := IntOp.andi_eq_one.1 e
  obtain ⟨e, f4⟩ := IntOp.andi_eq_one.1 e
  obtain ⟨e, f1⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨rows_of_all a3 _ _ _ _ _ _ j0f (fun _ => rfl) (fun _ => rfl) e2 e3,
    rows_of_all a2 _ _ _ _ _ _ j0f (fun _ => rfl) (fun _ => rfl) e0 e1⟩,
    finite_of_all a1 _ _ _ _ j0f (fun _ => rfl) f1, finite_of_all a4 _ _ _ _ j0f (fun _ => rfl) f4,
    finite_of_all _ _ _ _ _ j0f (fun _ => rfl) f5⟩

end Cert.Pf

end
-- ==== Proof.KI.Common.lean ====
/-
  The kernel's program as the launch theorem of the SparseCore library sees it: its labels, the configuration of its
  SparseCore call, the body table, the resource algebra of the proof; the buffers the call moves; and, in plain
  functions, what the call computes: row `e` of `g` is row `idx_j e` of `y`, row `e` of `h` is row `idx_i e` of `z`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionArraysS
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers of the SparseCore call -/

abbrev yLoc (d : Dev nD) : Loc nD τ sig := (SparseCore.T d).loc main_v3_0
abbrev zLoc (d : Dev nD) : Loc nD τ sig := (SparseCore.T d).loc main_v3_1
abbrev jLoc (d : Dev nD) : Loc nD τ sig := (SparseCore.T d).loc main_arg3
abbrev iLoc (d : Dev nD) : Loc nD τ sig := (SparseCore.T d).loc main_arg2
abbrev gLoc (d : Dev nD) : Loc nD τ sig := (SparseCore.T d).loc main_v4_0
abbrev hLoc (d : Dev nD) : Loc nD τ sig := (SparseCore.T d).loc main_v4_1

/-! ## What the call computes -/

/-- The row of a table of 10000 rows that an index word names (every word below 10000 names its own value). -/
def rowOf (w : BitVec 32) : Fin 10000 := ⟨w.toNat % 10000, Nat.mod_lt _ (by decide)⟩

/-- The gather: row `e` is the row of `src` that word `e` of `ix` names. -/
def gathered (src : S10000x128.Idx → Elt F .f32) (ix : S320000.Idx → Elt F .i32) : S320000x128.Idx → Elt F .f32 :=
  fun x => src (fun
    | 0 => rowOf (ix (fun | 0 => x 0))
    | 1 => x 1)

/-- The rows subcore `s` of SparseCore `c` works on: ten thousand from row `20000 * s + 10000 * c`. -/
def rowsOf (c s : ℕ) : Finset S320000x128.Idx :=
  Finset.univ.filter fun x => 20000 * s + 10000 * c ≤ (x 0).val ∧ (x 0).val < 20000 * s + 10000 * c + 10000

theorem mem_rowsOf {c s : ℕ} {x : S320000x128.Idx} :
    x ∈ rowsOf c s ↔ 20000 * s + 10000 * c ≤ (x 0).val ∧ (x 0).val < 20000 * s + 10000 * c + 10000 := by
  simp [rowsOf]

/-- `a` at the rows of task `(c, s)`'s first `k` chunks, `b` everywhere else. -/
def mix (c s k : ℕ) (a b : S320000x128.Idx → Elt F .f32) : S320000x128.Idx → Elt F .f32 :=
  fun x => if (x 0).val < 20000 * s + 10000 * c + 400 * k then a x else b x

/-- Before the first chunk nothing on the task's rows is changed. -/
theorem mix_zero (c s : ℕ) (a b : S320000x128.Idx → Elt F .f32) : ∀ x ∈ rowsOf c s, mix c s 0 a b x = b x := by
  intro x hx
  rw [mem_rowsOf] at hx
  unfold mix
  rw [if_neg (by omega)]

/-- After the last chunk all of the task's rows are written. -/
theorem mix_last (c s : ℕ) (a b : S320000x128.Idx → Elt F .f32) : ∀ x ∈ rowsOf c s, mix c s 25 a b x = a x := by
  intro x hx
  rw [mem_rowsOf] at hx
  unfold mix
  rw [if_pos (by omega)]

end Cert.KernelIdeal.Pf

end
-- ==== Proof.KI.Bodies.lean ====
/-
  The two TensorCore bodies run once: each from its blocks in its staging buffers, to its results' staging buffers at the
  body's own values of those blocks.
-/
module

public import proofs.«01_k».proof.Proof.KI.Common
public import Idealize.ShloMosaic.Lib.VecWindow
public import Idealize.ShloMosaic.Lib.Pipeline.TableIdle

@[expose] public section

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M` of core `c` owned whole, reading `X`. -/
abbrev own (c : Dev nD) {s : Shape} {e : EltTy} (M : Memref sig .tc .vmem s e) (X : s.Idx → Elt F e) : sProp 𝕄 :=
  owns (c : Thread nD τ) M fullShare X

set_option maxHeartbeats 2000000 in
/-- The tables' body: `y = x W1`, `z = x W2` and the 16 × 128 product, each at its result's buffer. -/
theorem tables_run (c : Dev nD)
    (M0 : Memref sig .tc .vmem S10000x128 .f32) (h0 : M0.IsWhole) (M1 : Memref sig .tc .vmem S128x128 .f32) (h1 : M1.IsWhole)
    (M2 : Memref sig .tc .vmem S128x128 .f32) (h2 : M2.IsWhole) (M3 : Memref sig .tc .vmem S16x128 .f32) (h3 : M3.IsWhole)
    (M4 : Memref sig .tc .vmem S128x128 .f32) (h4 : M4.IsWhole) (M5 : Memref sig .tc .vmem S10000x128 .f32) (h5 : M5.IsWhole)
    (M6 : Memref sig .tc .vmem S10000x128 .f32) (h6 : M6.IsWhole) (M7 : Memref sig .tc .vmem S16x128 .f32) (h7 : M7.IsWhole)
    (X0 : S10000x128.Idx → Elt F .f32) (X1 X2 : S128x128.Idx → Elt F .f32) (X3 : S16x128.Idx → Elt F .f32) (X4 : S128x128.Idx → Elt F .f32)
    (X5 X6 : S10000x128.Idx → Elt F .f32) (X7 : S16x128.Idx → Elt F .f32) :
    iprop(own c M0 X0 ∗ own c M1 X1 ∗ own c M2 X2 ∗ own c M3 X3 ∗ own c M4 X4 ∗ own c M5 X5 ∗ own c M6 X6 ∗ own c M7 X7)
      ⊢ wp frame (wpE (defs₀ (F := F)) 𝒱₀ (c : Thread nD τ) none) Set.univ (cc0__tables_body (F := F) M0 h0 M1 h1 M2 h2 M3 h3 M4 h4 M5 h5 M6 h6 M7 h7)
          fun _ => iprop(own c M0 X0 ∗ own c M1 X1 ∗ own c M2 X2 ∗ own c M3 X3 ∗ own c M4 X4
            ∗ own c M5 (k0_pay1 X0 X1) ∗ own c M6 (k0_pay2 X0 X2) ∗ own c M7 (k0_pay3 X3 X4)) := by
  simp only [cc0__tables_body_eq_skeleton]; unfold cc0__tables_body_skel
  unfold own owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  sl_exec
  sl_step
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]
  · iexists _; isplitr; swap; (· iexact H5)
    ipureintro; rw [View.read_writes_full, View.readAt_full, View.readAt_full, e0, e1]
  isplitl [H6]
  · iexists _; isplitr; swap; (· iexact H6)
    ipureintro; rw [View.read_writes_full, View.readAt_full, View.readAt_full, e0, e2]
  iexists _; isplitr; swap; (· iexact H7)
  ipureintro; rw [View.read_writes_full, View.readAt_full, View.readAt_full, e3, e4]

set_option maxHeartbeats 2000000 in
/-- The combining body: the activation of the sum of the two gathered blocks, the radial product and the bias, at its
    result's buffer. -/
theorem combine_run (c : Dev nD) (i : grid2.Coords)
    (M0 : Memref sig .tc .vmem S4000x128 .f32) (h0 : M0.IsWhole) (M1 : Memref sig .tc .vmem S4000x128 .f32) (h1 : M1.IsWhole)
    (M2 : Memref sig .tc .vmem S4000x16 .f32) (h2 : M2.IsWhole) (M3 : Memref sig .tc .vmem S16x128 .f32) (h3 : M3.IsWhole)
    (M4 : Memref sig .tc .vmem S1x128 .f32) (h4 : M4.IsWhole) (M5 : Memref sig .tc .vmem S4000x128 .f32) (h5 : M5.IsWhole)
    (X0 X1 : S4000x128.Idx → Elt F .f32) (X2 : S4000x16.Idx → Elt F .f32) (X3 : S16x128.Idx → Elt F .f32) (X4 : S1x128.Idx → Elt F .f32)
    (X5 : S4000x128.Idx → Elt F .f32) :
    iprop(own c M0 X0 ∗ own c M1 X1 ∗ own c M2 X2 ∗ own c M3 X3 ∗ own c M4 X4 ∗ own c M5 X5)
      ⊢ wp frame (wpE (defs₀ (F := F)) 𝒱₀ (c : Thread nD τ) none) Set.univ (cc2__combine_body (F := F) i M0 h0 M1 h1 M2 h2 M3 h3 M4 h4 M5 h5)
          fun _ => iprop(own c M0 X0 ∗ own c M1 X1 ∗ own c M2 X2 ∗ own c M3 X3 ∗ own c M4 X4 ∗ own c M5 (k2_pay1 X0 X1 X2 X3 X4)) := by
  simp only [cc2__combine_body_eq_skeleton]; unfold cc2__combine_body_skel
  unfold own owns
  iintro ⟨⟨%f0, %e0, H0⟩, ⟨%f1, %e1, H1⟩, ⟨%f2, %e2, H2⟩, ⟨%f3, %e3, H3⟩, ⟨%f4, %e4, H4⟩, ⟨%f5, %e5, H5⟩⟩
  sl_exec
  sl_step
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  iexists _; isplitr; swap; (· iexact H5)
  ipureintro
  rw [View.read_writes_full, View.readAt_full, View.readAt_full, View.readAt_full, View.readAt_full, View.readAt_full, e0, e1, e2, e3, e4]

end Cert.KernelIdeal.Pf

end
-- ==== Proof.KI.Pipes.lean ====
/-
  The two TensorCore pipelines' proof data: what each window's buffer holds after each grid point's body, with the
  bodies' obligations.
-/
module

public import proofs.«01_k».proof.Proof.KI.Bodies

@[expose] public section

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef)

variable {F : FTy → Type} [FloatOps F]

local notation "𝕄" => MT nD τ sig (HIx 1) (Elt F) ℕ UU ℕ

/-! ## The proof data -/

/-- Both pipelines prefetch nothing. -/
abbrev adm : (p : Fin 2) → (pcfgs (F := F) p).Adm := fun p => (cfgs p).toPCfg_adm

/-- The pairs a TensorCore may have recorded before call `n`. -/
def below (c : Dev nD) (n : ℕ) : Set (SemLoc sig × HIx 1) :=
  {p | (K (F := F)).lev ((c : Thread nD τ), p.1) p.2 ≤ 8 * n}

variable (V : Dev nD → Valuation τ sig (Elt F))

/-- Window `w`'s block at point `t` of the tables' pipeline, read off the entry valuation. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The tables' pipeline: its inputs stay as fetched, its three results are the body's products of the blocks. -/
def dat0 (c : Dev nD) : Dat τ (Elt F) (HIx 1) ℕ UU ℕ cfg0 c where
  A w := V c (Proc.devRef .tc (arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay1 (blk0 V c 0 t) (blk0 V c 1 t)
    | ⟨6, _⟩ => k0_pay2 (blk0 V c 0 t) (blk0 V c 2 t)
    | ⟨7, _⟩ => k0_pay3 (blk0 V c 3 t) (blk0 V c 4 t)
  Φ _ := Pipeline.scopedRest (Pipeline.pin (pcfgs (F := F)) adm 0).spec c
  q _ := fullShare
  owed _ := (K (F := F)).Otc c 0
  recorded _ := below (F := F) c 0

/-- Window `w`'s block at point `t` of the combining pipeline. -/
abbrev blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (arrRef spec2 w)))

/-- The combining pipeline: its inputs stay as fetched, its result's block is the body's value of the blocks. -/
def dat2 (c : Dev nD) : Dat τ (Elt F) (HIx 1) ℕ UU ℕ cfg2 c where
  A w := V c (Proc.devRef .tc (arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => k2_pay1 (blk2 V c 0 t) (blk2 V c 1 t) (blk2 V c 2 t) (blk2 V c 3 t) (blk2 V c 4 t)
  Φ _ := Pipeline.scopedRest (Pipeline.pin (pcfgs (F := F)) adm 1).spec c
  q _ := fullShare
  owed _ := (K (F := F)).Otc c 1
  recorded _ := below (F := F) c 1

/-! ## The bodies' obligations -/

/-- Every input of the tables' pipeline is fetched at its one point. -/
theorem before0 (c : Dev nD) (w : Fin cfg0.W) (hf : (cfg0.win w).fetch t0_0 = true) (d : (cfg0.win w).block.Idx → Elt F (cfg0.win w).elt) :
    (dat0 V c).before w t0_0 d = (dat0 V c).fetched w t0_0 d := by
  unfold Dat.before; rw [if_pos hf]

set_option maxHeartbeats 2000000 in
/-- The tables' body meets its obligation. -/
theorem body0 (c : Dev nD) : BodyObligation (dat0 V c) (defs₀ (F := F)) 𝒱₀ (none : HIx 1) Set.univ := fun t => by
  obtain rfl := fin_N0 t
  rw [bigSep_W0, bigSep_W0]
  rw [show (dat0 V c).Φ t0_0.succ = (dat0 V c).Φ t0_0.castSucc from rfl,
    show (dat0 V c).owesAt none t0_0.succ = (dat0 V c).owesAt none t0_0.castSucc from rfl]
  simp only [before0 V c 0 (fetch0_0 _), before0 V c 1 (fetch0_1 _), before0 V c 2 (fetch0_2 _), before0 V c 3 (fetch0_3 _), before0 V c 4 (fetch0_4 _)]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) 𝒱₀ (c : Thread nD τ) none) Set.univ)
  isplitr [HΦ HO]
  · iapply (tables_run c (st0_0 t0_0) (hstage0_0 0) (st0_1 t0_0) (hstage0_1 0) (st0_2 t0_0) (hstage0_2 0) (st0_3 t0_0) (hstage0_3 0)
      (st0_4 t0_0) (hstage0_4 0) (st0_5 t0_0) (hstage0_5 0) (st0_6 t0_0) (hstage0_6 0) (st0_7 t0_0) (hstage0_7 0)
      (blk0 V c 0 t0_0) (blk0 V c 1 t0_0) (blk0 V c 2 t0_0) (blk0 V c 3 t0_0) (blk0 V c 4 t0_0) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %_ ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Every input of the combining pipeline holds at every point the block a fetch there brings. -/
theorem before2 (c : Dev nD) (w : Fin cfg2.W) (hw : w.val < 5) (t : Fin cfg2.N) (d : (cfg2.win w).block.Idx → Elt F (cfg2.win w).elt) :
    (dat2 V c).before w t d = (dat2 V c).fetched w t d := by
  obtain ⟨k, hk⟩ := w
  have hk' : k < 5 := hw
  interval_cases k
  all_goals exact (dat2 V c).before_in_eq_fetched _ rfl (fun _ => rfl) (fun _ _ _ => rfl) (fun _ => rfl) t d

set_option maxHeartbeats 2000000 in
/-- The combining body meets its obligation. -/
theorem body2 (c : Dev nD) : BodyObligation (dat2 V c) (defs₀ (F := F)) 𝒱₀ (none : HIx 1) Set.univ := fun t => by
  rw [bigSep_W2, bigSep_W2]
  rw [show (dat2 V c).Φ t.succ = (dat2 V c).Φ t.castSucc from rfl,
    show (dat2 V c).owesAt none t.succ = (dat2 V c).owesAt none t.castSucc from rfl]
  simp only [before2 V c 0 (by decide), before2 V c 1 (by decide), before2 V c 2 (by decide), before2 V c 3 (by decide), before2 V c 4 (by decide)]
  iintro ⟨HΦ, HO, ⟨%d0, H0⟩, ⟨%d1, H1⟩, ⟨%d2, H2⟩, ⟨%d3, H3⟩, ⟨%d4, H4⟩, ⟨%d5, H5⟩⟩
  iapply (wp_wand_r frame (wpE (defs₀ (F := F)) 𝒱₀ (c : Thread nD τ) none) Set.univ)
  isplitr [HΦ HO]
  · iapply (combine_run c (grid2.coords t) (st2_0 t) (hstage2_0 _) (st2_1 t) (hstage2_1 _) (st2_2 t) (hstage2_2 _) (st2_3 t) (hstage2_3 _)
      (st2_4 t) (hstage2_4 _) (st2_5 t) (hstage2_5 _) (blk2 V c 0 t) (blk2 V c 1 t) (blk2 V c 2 t) (blk2 V c 3 t) (blk2 V c 4 t) _)
    isplitl [H0]; · iexact H0
    isplitl [H1]; · iexact H1
    isplitl [H2]; · iexact H2
    isplitl [H3]; · iexact H3
    isplitl [H4]; · iexact H4
    iexact H5
  iintro %_ ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

end Cert.KernelIdeal.Pf

end
-- ==== Proof.KI.Regions.lean ====
/-
  The two TensorCore pipelines as regions of the launch: each is entered from all of the TensorCore's buffers at a
  valuation and left with its results' arrays at what its write-backs leave, everything else as it was; the TensorCore
  keeps owing its SparseCore calls throughout.
-/
module

public import proofs.«01_k».proof.Proof.KI.Pipes

@[expose] public section

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef)

variable {F : FTy → Type} [FloatOps F]

local notation "𝕄" => MT nD τ sig (HIx 1) (Elt F) ℕ UU ℕ

/-! ## The regions -/

variable (V0 V2 : Dev nD → Valuation τ sig (Elt F))

/-- The two pipelines' proof data: the tables from `V0`, the combining from `V2`. -/
def pdats : (p : Fin 2) → (c : Dev nD) → Dat τ (Elt F) (HIx 1) ℕ UU ℕ (Pipeline.pin (pcfgs (F := F)) adm p) c
  | 0 => dat0 V0
  | 1 => dat2 V2

/-- The tables' invariant is the scoped buffers no window stages. -/
theorem phi0 (V : Dev nD → Valuation τ sig (Elt F)) (c : Dev nD) (t) :
    (dat0 V c).Φ t = Pipeline.scopedRest (Pipeline.pin (pcfgs (F := F)) adm 0).spec c := by
  unfold dat0; dsimp only

/-- The combining pipeline's likewise. -/
theorem phi2 (V : Dev nD → Valuation τ sig (Elt F)) (c : Dev nD) (t) :
    (dat2 V c).Φ t = Pipeline.scopedRest (Pipeline.pin (pcfgs (F := F)) adm 1).spec c := by
  unfold dat2; dsimp only

/-- What a TensorCore owes before call `n`, beside the pairs it has waited on. -/
abbrev owing (c : Dev nD) (n : ℕ) : sProp 𝕄 :=
  iprop(∃ W, ⌜(K (F := F)).WBelow (c : Thread nD τ) W (8 * n)⌝ ∗ owes (c : Thread nD τ) ((K (F := F)).Otc c n) W)

set_option maxHeartbeats 1000000 in
/-- Pipeline `p` before call `n`, from all of the TensorCore's buffers at `W`, to the same with the pipeline's arrays at
    their final contents. -/
def region (p : Fin 2) (n : ℕ) (kit : Pipeline.PLaunchFacts (nD := nD) (τ := τ) (pcfgs (F := F)) p) (hK : (pcfgs (F := F) p).pre.K = 0)
    (hbody : ∀ c, Pipeline.BodyObligationLoose (pdats V0 V2 p c) (defs₀ (F := F)) 𝒱₀ (none : HIx 1) Set.univ)
    (howed : ∀ c t, (pdats V0 V2 p c).owed t = (K (F := F)).Otc c n) (hrec : ∀ c t, (pdats V0 V2 p c).recorded t = below (F := F) c n)
    (hshare : ∀ c w, (pdats V0 V2 p c).share w = fullShare)
    (hΦ : ∀ c t, (pdats V0 V2 p c).Φ t = Pipeline.scopedRest (Pipeline.pin (pcfgs (F := F)) adm p).spec c)
    (W : Dev nD → Valuation τ sig (Elt F))
    (hW : ∀ c w, (pdats V0 V2 p c).arrAt w 0 = W c (Proc.devRef .tc (arrRef (Pipeline.pin (pcfgs (F := F)) adm p).spec w))) :
    Pipeline.RegionSeg (pcfgs (F := F)) adm (pdats V0 V2) (none : HIx 1) (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (Pipeline.pin (pcfgs (F := F)) adm) (pdats V0 V2) none p c (8 * n) ((K (F := F)).Otc c n) (howed c)
    (fun _ _ => Finset.mem_univ _) (fun _ _ => Nat.zero_le _)
    (fun _ _ h => ⟨Finset.mem_univ _, SparseCore.Cfg.lev_of_Otc_pos h⟩)
  pre c := iprop(StableHlo.held (c : Thread nD τ) (Pipeline.ucRefs τ sig) (W c) ∗ owing (F := F) c n)
  post c := iprop(StableHlo.held (c : Thread nD τ) (Pipeline.ucRefs τ sig) (Pipeline.afterRegion (pdats V0 V2 p c) (W c)) ∗ owing (F := F) c n)
  X _ := iprop(emp)
  Y _ := iprop(emp)
  Z c := StableHlo.held (c : Thread nD τ) (Pipeline.ucRefs τ sig \ Pipeline.arrRefs (pcfgs (F := F) p).spec) (W c)
  hentry c := by
    rw [Pipeline.ownSems0_none, Pipeline.prefHeld_of_none _ hK,
      Pipeline.arrays_held (pcfgs (F := F)) adm (pdats V0 V2) p kit c (hshare c) ((pdats V0 V2 p c).arrAt · 0) (W c) (hW c),
      StableHlo.held_sub_split (c : Thread nD τ) (Pipeline.arrRefs_sub_ucRefs (pcfgs (F := F) p).spec kit.win.arr_unscoped) (W c)]
    iintro ⟨⟨⟨Ha, HR⟩, HO⟩, -, -⟩
    imodintro
    isplitl [Ha]; · iexact Ha
    isplitr; · iempintro
    isplitl [HO]
    · unfold Dat.owesAt Pipeline.owesWithin Dat.bound
      rw [howed c 0, hrec c 0]
      icases HO with ⟨%Wd, %hWd, HO⟩; iexists Wd
      isplitr; · ipureintro; exact fun q hq => Or.inl (hWd q hq)
      iexact HO
    isplitr; · iempintro
    iexact HR
  hin c := by
    rw [hΦ c, Pipeline.prefHeld_of_none _ hK]
    iintro ⟨-, -, Hr⟩
    iexact Hr
  hout c := by
    rw [hΦ c, Pipeline.ownSems0_none]
    iintro Hr
    isplitr; · iempintro
    isplitr; · iempintro
    iexact Hr
  hexit c := by
    rw [Pipeline.arrays_held (pcfgs (F := F)) adm (pdats V0 V2) p kit c (hshare c) ((pdats V0 V2 p c).arrAt · _)
        (Pipeline.afterRegion (pdats V0 V2 p c) (W c)) (fun w => (Pipeline.afterRegion_arr (pdats V0 V2 p c) (W c) kit.win.arr_inj w).symm),
      StableHlo.held_sub_split (c : Thread nD τ) (Pipeline.arrRefs_sub_ucRefs (pcfgs (F := F) p).spec kit.win.arr_unscoped) (Pipeline.afterRegion (pdats V0 V2 p c) (W c)),
      StableHlo.held_congr (c : Thread nD τ) (Pipeline.afterRegion_off (pdats V0 V2 p c) (W c) (Pipeline.ucRefs τ sig))]
    iintro ⟨Ha, HO, -, HR⟩
    imodintro
    isplitr [HO]
    · isplitl [Ha]; · iexact Ha
      iexact HR
    unfold Dat.owesAt Pipeline.owesWithin Dat.bound
    rw [howed c _, hrec c _]
    icases HO with ⟨%Wd, %hWd, HO⟩; iexists Wd
    isplitr
    · ipureintro
      intro q hq
      rcases hWd hq with h | ⟨w, s, rfl⟩
      · exact h
      · exact Nat.zero_le _
    iexact HO

/-- The tables' region, before the call. -/
def reg0 := region V0 V2 0 0 launch0.toP rfl (fun c => (body0 V0 c).loose) (fun _ _ => rfl) (fun _ _ => rfl)
  (fun c w => (dat0 V0 c).share_full (fun _ => rfl) w) (fun c t => phi0 V0 c t) V0 (fun _ _ => rfl)

/-- The combining region, after the call. -/
def reg2 := region V0 V2 1 1 launch2.toP rfl (fun c => (body2 V2 c).loose) (fun _ _ => rfl) (fun _ _ => rfl)
  (fun c w => (dat2 V2 c).share_full (fun _ => rfl) w) (fun c t => phi2 V2 c t) V2 (fun _ _ => rfl)

end Cert.KernelIdeal.Pf

end
-- ==== Proof.KI.Tile.lean ====
/-
  One task of the SparseCore call: subcore `s` of SparseCore `c` goes through its ten thousand rows in 25 chunks of 400. It
  fetches the chunk's words of `idx_j` and `idx_i`, gathers those rows of `y` and `z` into its two row buffers by two
  indirect streams in flight together, and writes the buffers out to the chunk's rows of `g` and `h`. The loop's
  invariant says that the chunks done so far hold the gathered rows.
-/
module

public import proofs.«01_k».proof.Proof.KI.Common

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v3_0_scv : Memref Cert.KernelIdeal.sig Kind.scVector Space.hbm Cert.KernelIdeal.S10000x128 EltTy.f32)
local notation "zV" => (Memref.whole Cert.KernelIdeal.main_v3_1_scv : Memref Cert.KernelIdeal.sig Kind.scVector Space.hbm Cert.KernelIdeal.S10000x128 EltTy.f32)
local notation "jV" => (Memref.whole Cert.KernelIdeal.main_arg3_scv : Memref Cert.KernelIdeal.sig Kind.scVector Space.hbm Cert.KernelIdeal.S320000 EltTy.i32)
local notation "iV" => (Memref.whole Cert.KernelIdeal.main_arg2_scv : Memref Cert.KernelIdeal.sig Kind.scVector Space.hbm Cert.KernelIdeal.S320000 EltTy.i32)
local notation "gV" => (Memref.whole Cert.KernelIdeal.main_v4_0_scv : Memref Cert.KernelIdeal.sig Kind.scVector Space.hbm Cert.KernelIdeal.S320000x128 EltTy.f32)
local notation "hV" => (Memref.whole Cert.KernelIdeal.main_v4_1_scv : Memref Cert.KernelIdeal.sig Kind.scVector Space.hbm Cert.KernelIdeal.S320000x128 EltTy.f32)
local notation "s0V" => (Memref.whole Cert.KernelIdeal.cc1_scratch0 : Memref Cert.KernelIdeal.sig Kind.scVector Space.vmem Cert.KernelIdeal.S400 EltTy.i32)
local notation "s1V" => (Memref.whole Cert.KernelIdeal.cc1_scratch1 : Memref Cert.KernelIdeal.sig Kind.scVector Space.vmem Cert.KernelIdeal.S400 EltTy.i32)
local notation "r0V" => (Memref.whole Cert.KernelIdeal.cc1_scratch2 : Memref Cert.KernelIdeal.sig Kind.scVector Space.vmem Cert.KernelIdeal.S400x128 EltTy.f32)
local notation "r1V" => (Memref.whole Cert.KernelIdeal.cc1_scratch3 : Memref Cert.KernelIdeal.sig Kind.scVector Space.vmem Cert.KernelIdeal.S400x128 EltTy.f32)

theorem trips_eq : k1_t1_loop.trips = 25 := by decide

variable (d : Dev nD) (L : grid1.Coords)

abbrev cV (L : grid1.Coords) : Fin τ.nSC := (L 0).castLE hcore1
abbrev sV (L : grid1.Coords) : Fin τ.nSub := (L 1).castLE hsub1

/-! ## The chunk of rows one trip works on -/

abbrev rowRect1 (L : grid1.Coords) (t : Fin k1_t1_loop.trips) : Rect S320000 := Rect.unit (s := S320000) (k1_off1 L t) S400.size (k1_off1_inb L t)
abbrev rowRect2 (L : grid1.Coords) (t : Fin k1_t1_loop.trips) : Rect S320000x128 := Rect.unit (s := S320000x128) (k1_off2 L t) S400x128.size (k1_off2_inb L t)
abbrev jK (L : grid1.Coords) (t : Fin k1_t1_loop.trips) : Memref sig .scVector .hbm S400 .i32 := (jV).slice (rowRect1 L t) (fun _ => rfl)
abbrev iK (L : grid1.Coords) (t : Fin k1_t1_loop.trips) : Memref sig .scVector .hbm S400 .i32 := (iV).slice (rowRect1 L t) (fun _ => rfl)
abbrev gK (L : grid1.Coords) (t : Fin k1_t1_loop.trips) : Memref sig .scVector .hbm S400x128 .f32 := (gV).slice (rowRect2 L t) (fun _ => rfl)
abbrev hK (L : grid1.Coords) (t : Fin k1_t1_loop.trips) : Memref sig .scVector .hbm S400x128 .f32 := (hV).slice (rowRect2 L t) (fun _ => rfl)
abbrev yAllK : Memref sig .scVector .hbm S10000x128 .f32 := (yV).slice (Rect.unit (s := S10000x128) ![0, 0] S10000x128.size inb_S10000x128_S10000x128_0_0) (fun _ => rfl)
abbrev zAllK : Memref sig .scVector .hbm S10000x128 .f32 := (zV).slice (Rect.unit (s := S10000x128) ![0, 0] S10000x128.size inb_S10000x128_S10000x128_0_0) (fun _ => rfl)

/-- The chunk's rows: 400 from the trip's first. -/
theorem mem_rowRect2 (t : Fin k1_t1_loop.trips) (x : S320000x128.Idx) :
    x ∈ (rowRect2 L t).set ↔ 20000 * (L 1).val + 10000 * (L 0).val + 400 * t.val ≤ (x 0).val
      ∧ (x 0).val < 20000 * (L 1).val + 10000 * (L 0).val + 400 * t.val + 400 := by
  unfold rowRect2
  rw [Rect.mem_set_unit]
  simp only [k1_off2_eq]
  constructor
  · intro h; exact h 0
  · intro h a
    match a with
    | 0 => exact h
    | 1 => exact ⟨Nat.zero_le _, (x 1).isLt.trans_le (by simp)⟩

theorem set_gK (t : Fin k1_t1_loop.trips) : (gK L t).view.set = (rowRect2 L t).set := View.set_slice_whole _ _
theorem set_hK (t : Fin k1_t1_loop.trips) : (hK L t).view.set = (rowRect2 L t).set := View.set_slice_whole _ _

/-- The chunk lies in the task's rows. -/
theorem rowRect2_sub (t : Fin k1_t1_loop.trips) : (rowRect2 L t).set ⊆ rowsOf (L 0).val (L 1).val := by
  intro x hx
  rw [mem_rowRect2] at hx
  rw [mem_rowsOf]
  have ht : t.val < 25 := trips_eq ▸ t.isLt
  omega

/-- Off the chunk, one chunk more or less makes no difference on the task's rows. -/
theorem mix_off (t : Fin k1_t1_loop.trips) (a b : S320000x128.Idx → Elt F .f32) :
    ∀ x ∈ rowsOf (L 0).val (L 1).val \ (rowRect2 L t).set, mix (L 0).val (L 1).val t.val a b x = mix (L 0).val (L 1).val (t.val + 1) a b x := by
  intro x hx
  rw [Finset.mem_sdiff, mem_rowRect2, mem_rowsOf] at hx
  unfold mix
  split_ifs <;> first | rfl | omega

/-- On the chunk the next trip's contents are the wanted ones. -/
theorem mix_on (t : Fin k1_t1_loop.trips) (a b : S320000x128.Idx → Elt F .f32) (x : S320000x128.Idx) (hx : x ∈ (rowRect2 L t).set) :
    mix (L 0).val (L 1).val (t.val + 1) a b x = a x := by
  rw [mem_rowRect2] at hx
  unfold mix
  rw [if_pos (by omega)]

/-- Place `j` of the chunk, as a row and column of the array. -/
theorem rowRect2_emb0 (t : Fin k1_t1_loop.trips) (j : (rowRect2 L t).shape.Idx) :
    ((rowRect2 L t).emb j 0).val = 20000 * (L 1).val + 10000 * (L 0).val + 400 * t.val + (j 0).val := by
  rw [Rect.emb_apply]
  show (k1_off2 L t) 0 + 1 * (j 0).val = _
  rw [k1_off2_eq]; simp
theorem rowRect2_emb1 (t : Fin k1_t1_loop.trips) (j : (rowRect2 L t).shape.Idx) : ((rowRect2 L t).emb j 1).val = (j 1).val := by
  rw [Rect.emb_apply]
  show (k1_off2 L t) 1 + 1 * (j 1).val = _
  rw [k1_off2_eq]; simp
theorem rowRect1_emb0 (t : Fin k1_t1_loop.trips) (j : (rowRect1 L t).shape.Idx) :
    ((rowRect1 L t).emb j 0).val = 20000 * (L 1).val + 10000 * (L 0).val + 400 * t.val + (j 0).val := by
  rw [Rect.emb_apply]
  show (k1_off1 L t) 0 + 1 * (j 0).val = _
  rw [k1_off1_eq]; simp

/-- What a gather leaves in the row buffer, when the list holds the chunk's words of `ix` and every word of `ix` names a
    row: at place `j` the gathered array's element at the chunk's place `j`. -/
theorem payload_eq (t : Fin k1_t1_loop.trips) (src : S10000x128.Idx → Elt F .f32) (ix : S320000.Idx → Elt F .i32)
    (hix : ∀ x, (ix x).toNat < 10000) (lst : S400.Idx → Elt F .i32) (hlst : ∀ k, lst k = ix ((rowRect1 L t).emb k))
    (hn : S400.numel = S400x128.size gathers_S10000x128_S400x128.axis')
    (hin : ∀ x, (lst x).toNat < S10000x128.size gathers_S10000x128_S400x128.axis) (j : S400x128.Idx) :
    SparseCore.gatherPayload gathers_S10000x128_S400x128 src (SparseCore.rows lst hn hin) j
      = gathered src ix ((rowRect2 L t).emb j) := by
  unfold SparseCore.gatherPayload gathered
  congr 1
  funext a
  match a with
  | 0 =>
    apply Fin.ext
    refine (congrArg Fin.val (Shape.Gathers.idx_axis gathers_S10000x128_S400x128 (SparseCore.rows lst hn hin) j)).trans ?_
    let q : S400.Idx := S400.rowMajor.symm ((j gathers_S10000x128_S400x128.axis').cast hn.symm)
    have hq : (q 0).val = (j 0).val := by
      have e := Shape.rowMajor_val_one q
      rw [show S400.rowMajor q = (j gathers_S10000x128_S400x128.axis').cast hn.symm from Equiv.apply_symm_apply _ _] at e
      exact e.symm
    show (lst q).toNat = (rowOf (ix (fun | 0 => (rowRect2 L t).emb j 0))).val
    rw [hlst q, show (rowRect1 L t).emb q = (fun | 0 => (rowRect2 L t).emb j 0 : S320000.Idx) from funext fun b => by
      match b with
      | 0 => exact Fin.ext ((rowRect1_emb0 L t q).trans (by rw [rowRect2_emb0, hq]))]
    unfold rowOf
    exact (Nat.mod_eq_of_lt (hix _)).symm
  | 1 =>
    apply Fin.ext
    refine (Shape.Gathers.idx_of_ne gathers_S10000x128_S400x128 (SparseCore.rows lst hn hin) j 1 (by decide)).trans ?_
    exact (rowRect2_emb1 L t j).symm

/-- The chunk written with the gathered rows, together with what was there before, is the next trip's contents (in `g`). -/
theorem write_gK (t : Fin k1_t1_loop.trips) (a b : S320000x128.Idx → Elt F .f32) (pay : S400x128.Idx → Elt F .f32)
    (hpay : ∀ j, pay j = a ((rowRect2 L t).emb j)) :
    ∀ x ∈ (rowRect2 L t).set, (gK L t).view.writes (Elt F) (mix (L 0).val (L 1).val t.val a b) [⟨Rect.whole S400x128, pay⟩] x
      = mix (L 0).val (L 1).val (t.val + 1) a b x := by
  intro x hx
  rw [mix_on L t a b x hx]
  obtain ⟨j, rfl⟩ := (rowRect2 L t).exists_idx_of_mem hx
  have hw := (View.write_univ_eq_writes_whole (Val := Elt F) (gK L t).view (mix (L 0).val (L 1).val t.val a b) [] pay).symm
  refine (congrFun hw ((rowRect2 L t).emb j)).trans ?_
  exact (View.write_emb_of_mem (v := (gK L t).view) _ pay (Finset.mem_univ j)).trans (hpay j)
/-- The same in `h`. -/
theorem write_hK (t : Fin k1_t1_loop.trips) (a b : S320000x128.Idx → Elt F .f32) (pay : S400x128.Idx → Elt F .f32)
    (hpay : ∀ j, pay j = a ((rowRect2 L t).emb j)) :
    ∀ x ∈ (rowRect2 L t).set, (hK L t).view.writes (Elt F) (mix (L 0).val (L 1).val t.val a b) [⟨Rect.whole S400x128, pay⟩] x
      = mix (L 0).val (L 1).val (t.val + 1) a b x := by
  intro x hx
  rw [mix_on L t a b x hx]
  obtain ⟨j, rfl⟩ := (rowRect2 L t).exists_idx_of_mem hx
  have hw := (View.write_univ_eq_writes_whole (Val := Elt F) (hK L t).view (mix (L 0).val (L 1).val t.val a b) [] pay).symm
  refine (congrFun hw ((rowRect2 L t).emb j)).trans ?_
  exact (View.write_emb_of_mem (v := (hK L t).view) _ pay (Finset.mem_univ j)).trans (hpay j)

/-! ## The loop -/

variable (A : Dev nD → Valuation τ sig (Elt F))

/-- What the call finds in the buffers it moves. -/
abbrev yv (d : Dev nD) : S10000x128.Idx → Elt F .f32 := A d (Proc.devRef .tc main_v3_0)
abbrev zv (d : Dev nD) : S10000x128.Idx → Elt F .f32 := A d (Proc.devRef .tc main_v3_1)
abbrev jv (d : Dev nD) : S320000.Idx → Elt F .i32 := A d (Proc.devRef .tc main_arg3)
abbrev iv (d : Dev nD) : S320000.Idx → Elt F .i32 := A d (Proc.devRef .tc main_arg2)
abbrev gv (d : Dev nD) : S320000x128.Idx → Elt F .f32 := A d (Proc.devRef .tc main_v4_0)
abbrev hv (d : Dev nD) : S320000x128.Idx → Elt F .f32 := A d (Proc.devRef .tc main_v4_1)
/-- What it leaves in its two results. -/
abbrev gOut (d : Dev nD) : S320000x128.Idx → Elt F .f32 := gathered (yv A d) (jv A d)
abbrev hOut (d : Dev nD) : S320000x128.Idx → Elt F .f32 := gathered (zv A d) (iv A d)

/-- Every index word the call finds names a row of the tables. -/
def InRows : Prop := ∀ d : Dev nD, (∀ x, (jv A d x).toNat < 10000) ∧ ∀ x, (iv A d x).toNat < 10000

/-- The share of the inputs that task `(c, s)` holds: the full share halved once for the SparseCore, four times for the
    subcore. -/
def tq (c : Fin 2) (s : Fin 16) : PosShare TreeShare := ShareLeaves.leaf 4 (ShareLeaves.leaf 1 fullShare c) s
abbrev tqL (L : grid1.Coords) : PosShare TreeShare := tq (L 0) (L 1)

abbrev cell (L : grid1.Coords) (sem : DmaSem sig) : GSem nD τ sig := (V d (cV L) (sV L), .dma sem)

/-- Before trip `k`: the inputs' shares, the first `k` chunks of `g` and `h` done, the four scratch buffers at some
    contents, the six semaphores at zero, and no wait recorded but the task's own. -/
def inv [FloatOps F] (O : CellTallies nD τ sig (HIx 1)) (W : Waits sig (HIx 1)) (k : ℕ) (_ : Unit) : sProp 𝕄 :=
  iprop(Transfers.MayWaits (V d (cV L) (sV L)) (default : HIx 1) O
    ∗ ((jV).view.loc (V d (cV L) (sV L)) ↦{tqL L} jv A d)
    ∗ ((iV).view.loc (V d (cV L) (sV L)) ↦{tqL L} iv A d)
    ∗ ((yV).view.loc (V d (cV L) (sV L)) ↦{tqL L} yv A d)
    ∗ ((zV).view.loc (V d (cV L) (sV L)) ↦{tqL L} zv A d)
    ∗ ((gV).view.loc (V d (cV L) (sV L)) ↦[rowsOf (L 0).val (L 1).val]{fullShare} mix (L 0).val (L 1).val k (gOut A d) (gv A d))
    ∗ ((hV).view.loc (V d (cV L) (sV L)) ↦[rowsOf (L 0).val (L 1).val]{fullShare} mix (L 0).val (L 1).val k (hOut A d) (hv A d))
    ∗ (∃ f, (s0V).view.loc (V d (cV L) (sV L)) ↦{fullShare} f)
    ∗ (∃ f, (s1V).view.loc (V d (cV L) (sV L)) ↦{fullShare} f)
    ∗ (∃ f, (r0V).view.loc (V d (cV L) (sV L)) ↦{fullShare} f)
    ∗ (∃ f, (r1V).view.loc (V d (cV L) (sV L)) ↦{fullShare} f)
    ∗ semVal (cell d L cc1_scoped0.sem) 0 ∗ semVal (cell d L cc1_scoped1.sem) 0
    ∗ semVal (cell d L cc1_scratch4.sem) 0 ∗ semVal (cell d L cc1_scratch5.sem) 0
    ∗ semVal (cell d L cc1_scoped2.sem) 0 ∗ semVal (cell d L cc1_scoped3.sem) 0
    ∗ ∃ W', ⌜∀ p ∈ W', p ∈ W ∨ p.2 = none⌝ ∗ owes (V d (cV L) (sV L)) O W')

/-- The words a fetch landed in an index list are rows of the tables. -/
theorem lst_in (ix : S320000.Idx → Elt F .i32) (hix : ∀ x, (ix x).toNat < 10000) (lst : S400.Idx → Elt F .i32) (t : Fin k1_t1_loop.trips)
    (hlst : ∀ k, lst k = ix ((rowRect1 L t).emb k)) : ∀ x, (lst x).toNat < S10000x128.size gathers_S10000x128_S400x128.axis := by
  intro x; rw [hlst]; exact hix _

/-- All of `y` read through the slice that is the whole of it is `y`. -/
theorem read_yAllK (f : S10000x128.Idx → Elt F .f32) : (yAllK).view.read (Elt F) f = f := by
  funext x
  refine (View.read_apply (v := (yAllK).view) f x).trans ((cast_eq _ _).trans (congrArg f (funext fun a => Fin.ext ?_)))
  show (![0, 0] : Fin 2 → ℕ) a + 1 * (x a).val = (x a).val
  match a with
  | 0 => simp
  | 1 => simp
/-- The same of `z`. -/
theorem read_zAllK (f : S10000x128.Idx → Elt F .f32) : (zAllK).view.read (Elt F) f = f := by
  funext x
  refine (View.read_apply (v := (zAllK).view) f x).trans ((cast_eq _ _).trans (congrArg f (funext fun a => Fin.ext ?_)))
  show (![0, 0] : Fin 2 → ℕ) a + 1 * (x a).val = (x a).val
  match a with
  | 0 => simp
  | 1 => simp

set_option maxHeartbeats 4000000 in
/-- One trip: from the invariant before trip `t` to the invariant before the next. -/
theorem trip [FloatOps F] (hA : InRows A) (O : CellTallies nD τ sig (HIx 1)) (W : Waits sig (HIx 1)) (t : Fin k1_t1_loop.trips) (u : Unit) :
    inv d L A O W t.val u ⊢ wp frame (wpE (defs₀ (F := F)) 𝒱₀ (V d (cV L) (sV L)) none) Set.univ
      (k1_t1_body (F := F) L yV (Memref.isWhole_whole _) zV (Memref.isWhole_whole _) jV (Memref.isWhole_whole _) iV (Memref.isWhole_whole _)
        gV (Memref.isWhole_whole _) hV (Memref.isWhole_whole _) s0V (Memref.isWhole_whole _) s1V (Memref.isWhole_whole _)
        r0V (Memref.isWhole_whole _) r1V (Memref.isWhole_whole _) cc1_scratch4 cc1_scratch5 cc1_scoped0 cc1_scoped1 cc1_scoped2 cc1_scoped3 t u)
      (inv d L A O W (t.val + 1)) := by
  unfold inv
  iintro ⟨Hmw, Hj, Hi, Hy, Hz, Hg, Hh, ⟨%f0, Hs0⟩, ⟨%f1, Hs1⟩, ⟨%f2, Hr0⟩, ⟨%f3, Hr1⟩, HA, HB, HC, HD, HE, HF, %W', %hW', HO⟩
  sl_exec
  -- what the two fetches landed in the index lists
  have hl0 : ∀ k, (s0V).view.read (Elt F) (View.write (Elt F) (s0V).view f0 (trip.sl.dma0 d L A t) Finset.univ) k = jv A d ((rowRect1 L t).emb k) := by
    intro k; rw [View.write_whole_univ]; rfl
  have hl1 : ∀ k, (s1V).view.read (Elt F) (View.write (Elt F) (s1V).view f1 (trip.sl.dma0_1 d L A t) Finset.univ) k = iv A d ((rowRect1 L t).emb k) := by
    intro k; rw [View.write_whole_univ]; rfl
  have hin0 := lst_in L (jv A d) (hA d).1 _ t hl0
  have hin1 := lst_in L (iv A d) (hA d).2 _ t hl1
  -- the chunk of `g` and of `h`, carved out of the task's rows
  ihave Hgs := (pointsTo_split_subset (q := fullShare) (f := mix (L 0).val (L 1).val t.val (gOut A d) (gv A d)) (set_gK L t ▸ rowRect2_sub L t)).1 $$ Hg
  icases Hgs with ⟨Hgs, Hgr⟩
  ihave Hhs := (pointsTo_split_subset (q := fullShare) (f := mix (L 0).val (L 1).val t.val (hOut A d) (hv A d)) (set_hK L t ▸ rowRect2_sub L t)).1 $$ Hh
  icases Hhs with ⟨Hhs, Hhr⟩
  ihave Hgs' := (Entails.of_eq (show ((gV).view.loc (V d (cV L) (sV L)) ↦[(gK L t).view.set]{fullShare} mix (L 0).val (L 1).val t.val (gOut A d) (gv A d) : sProp 𝕄)
      = (gK L t).view.loc (V d (cV L) (sV L)) ↦[(gK L t).view.set]{fullShare} mix (L 0).val (L 1).val t.val (gOut A d) (gv A d) from rfl)) $$ Hgs
  ihave Hhs' := (Entails.of_eq (show ((hV).view.loc (V d (cV L) (sV L)) ↦[(hK L t).view.set]{fullShare} mix (L 0).val (L 1).val t.val (hOut A d) (hv A d) : sProp 𝕄)
      = (hK L t).view.loc (V d (cV L) (sV L)) ↦[(hK L t).view.set]{fullShare} mix (L 0).val (L 1).val t.val (hOut A d) (hv A d) from rfl)) $$ Hhs
  sl_exec
  sl_step
  have hp0 : ∀ j, trip.sl.dma0_2 d L A t f0 f2 hin0 j = gOut A d ((rowRect2 L t).emb j) := by
    intro j
    refine (congrFun (View.read_writes_whole (r0V).view f2 (trip.sl.gather0 d L A t f0 hin0)) j).trans ?_
    unfold trip.sl.gather0
    refine Eq.trans ?_ (payload_eq L t (yv A d) (jv A d) (hA d).1 _ hl0 rfl hin0 j)
    exact congrArg (fun f => SparseCore.gatherPayload gathers_S10000x128_S400x128 f (SparseCore.rows _ rfl hin0) j) (read_yAllK (yv A d))
  have hp1 : ∀ j, trip.sl.dma0_3 d L A t f1 f3 hin1 j = hOut A d ((rowRect2 L t).emb j) := by
    intro j
    refine (congrFun (View.read_writes_whole (r1V).view f3 (trip.sl.gather1 d L A t f1 hin1)) j).trans ?_
    unfold trip.sl.gather1
    refine Eq.trans ?_ (payload_eq L t (zv A d) (iv A d) (hA d).2 _ hl1 rfl hin1 j)
    exact congrArg (fun f => SparseCore.gatherPayload gathers_S10000x128_S400x128 f (SparseCore.rows _ rfl hin1) j) (read_zAllK (zv A d))
  isplitl [Hmw]; · iexact Hmw
  isplitl [Hj]; · iexact Hj
  isplitl [Hi]; · iexact Hi
  isplitl [Hy]; · iexact Hy
  isplitl [Hz]; · iexact Hz
  isplitl [Hgs' Hgr]
  · iapply (pointsTo_split_subset (ℓ := (gV).view.loc (V d (cV L) (sV L))) (q := fullShare) (f := mix (L 0).val (L 1).val (t.val + 1) (gOut A d) (gv A d)) (set_gK L t ▸ rowRect2_sub L t)).2
    isplitl [Hgs']
    · iapply (Entails.of_eq (pointsTo_congr (ℓ := (gV).view.loc (V d (cV L) (sV L))) (q := fullShare) (I := (gK L t).view.set)
        (fun x hx => write_gK L t (gOut A d) (gv A d) _ hp0 x (set_gK L t ▸ hx))))
      iexact Hgs'
    · iapply (Entails.of_eq (pointsTo_congr (ℓ := (gV).view.loc (V d (cV L) (sV L))) (q := fullShare) (I := rowsOf (L 0).val (L 1).val \ (gK L t).view.set)
        (fun x hx => mix_off L t (gOut A d) (gv A d) x (set_gK L t ▸ hx))))
      iexact Hgr
  isplitl [Hhs' Hhr]
  · iapply (pointsTo_split_subset (ℓ := (hV).view.loc (V d (cV L) (sV L))) (q := fullShare) (f := mix (L 0).val (L 1).val (t.val + 1) (hOut A d) (hv A d)) (set_hK L t ▸ rowRect2_sub L t)).2
    isplitl [Hhs']
    · iapply (Entails.of_eq (pointsTo_congr (ℓ := (hV).view.loc (V d (cV L) (sV L))) (q := fullShare) (I := (hK L t).view.set)
        (fun x hx => write_hK L t (hOut A d) (hv A d) _ hp1 x (set_hK L t ▸ hx))))
      iexact Hhs'
    · iapply (Entails.of_eq (pointsTo_congr (ℓ := (hV).view.loc (V d (cV L) (sV L))) (q := fullShare) (I := rowsOf (L 0).val (L 1).val \ (hK L t).view.set)
        (fun x hx => mix_off L t (hOut A d) (hv A d) x (set_hK L t ▸ hx))))
      iexact Hhr
  isplitl [Hs0]; · iexists _; iexact Hs0
  isplitl [Hs1]; · iexists _; iexact Hs1
  isplitl [Hr0]; · iexists _; iexact Hr0
  isplitl [Hr1]; · iexists _; iexact Hr1
  isplitl [HA]; · iexact HA
  isplitl [HB]; · iexact HB
  isplitl [HC]; · iexact HC
  isplitl [HD]; · iexact HD
  isplitl [HE]; · iexact HE
  isplitl [HF]; · iexact HF
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The whole task -/

/-- The six semaphores are among the subcore's own: they are them and the rest. -/
theorem ownSems0_V :
    (ownSems0 (V d (cV L) (sV L)) : sProp 𝕄)
      = iprop(semVal (cell d L cc1_scoped0.sem) 0 ∗ semVal (cell d L cc1_scoped1.sem) 0 ∗ semVal (cell d L cc1_scratch4.sem) 0
          ∗ semVal (cell d L cc1_scratch5.sem) 0 ∗ semVal (cell d L cc1_scoped2.sem) 0 ∗ semVal (cell d L cc1_scoped3.sem) 0
          ∗ bigSep (((((((ownCells (V d (cV L) (sV L))).erase (cell d L cc1_scoped0.sem)).erase (cell d L cc1_scoped1.sem)).erase (cell d L cc1_scratch4.sem)).erase
              (cell d L cc1_scratch5.sem)).erase (cell d L cc1_scoped2.sem)).erase (cell d L cc1_scoped3.sem)) fun g => semVal g 0) := by
  have own (sem : DmaSem sig) (h : (SemLoc.dma sem : SemLoc sig).isScoped .scVector = true) : cell d L sem ∈ ownCells (V d (cV L) (sV L)) :=
    (mem_ownCells (g := cell d L sem)).mpr ⟨rfl, h⟩
  have ne (a b : DmaSem sig) (h : a ≠ b) : cell d L a ≠ cell d L b := by simpa [cell] using h
  unfold SparseCore.Cfg.ownSems0
  rw [SparseCore.bigSep_erase' (i := cell d L cc1_scoped0.sem) (own _ (by decide)),
    SparseCore.bigSep_erase' (i := cell d L cc1_scoped1.sem) (by simp only [Finset.mem_erase]; exact ⟨ne _ _ (by decide), own _ (by decide)⟩),
    SparseCore.bigSep_erase' (i := cell d L cc1_scratch4.sem) (by
      simp only [Finset.mem_erase]; exact ⟨ne _ _ (by decide), ne _ _ (by decide), own _ (by decide)⟩),
    SparseCore.bigSep_erase' (i := cell d L cc1_scratch5.sem) (by
      simp only [Finset.mem_erase]; exact ⟨ne _ _ (by decide), ne _ _ (by decide), ne _ _ (by decide), own _ (by decide)⟩),
    SparseCore.bigSep_erase' (i := cell d L cc1_scoped2.sem) (by
      simp only [Finset.mem_erase]; exact ⟨ne _ _ (by decide), ne _ _ (by decide), ne _ _ (by decide), ne _ _ (by decide), own _ (by decide)⟩),
    SparseCore.bigSep_erase' (i := cell d L cc1_scoped3.sem) (by
      simp only [Finset.mem_erase]; exact ⟨ne _ _ (by decide), ne _ _ (by decide), ne _ _ (by decide), ne _ _ (by decide), ne _ _ (by decide), own _ (by decide)⟩)]

abbrev ref (L : grid1.Coords) (b : Ref sig .scVector) : DevRef τ sig := (Proc.scVector (cV L) (sV L)).devRef b

/-- The four scratch buffers are among the subcore's own: they are them, at some contents, and the rest. -/
theorem ownBufs_V :
    (ownBufs (V d (cV L) (sV L)) : sProp 𝕄)
      = iprop((∃ f, (V d (cV L) (sV L)).loc cc1_scratch0 ↦{fullShare} f) ∗ (∃ f, (V d (cV L) (sV L)).loc cc1_scratch1 ↦{fullShare} f)
          ∗ (∃ f, (V d (cV L) (sV L)).loc cc1_scratch2 ↦{fullShare} f) ∗ (∃ f, (V d (cV L) (sV L)).loc cc1_scratch3 ↦{fullShare} f)
          ∗ bigSep (((((ownRefs (τ := τ) (.scVector (cV L) (sV L))).erase (ref L cc1_scratch0)).erase (ref L cc1_scratch1)).erase (ref L cc1_scratch2)).erase (ref L cc1_scratch3))
              fun b => iprop(∃ f, ((d, b) : Loc nD τ sig) ↦{fullShare} f)) := by
  have own (b : Ref sig .scVector) (h : (ref L b).owner = .proc (Proc.scVector (cV L) (sV L))) : ref L b ∈ ownRefs (τ := τ) (.scVector (cV L) (sV L)) :=
    SparseCore.Cfg.mem_ownRefs_of_owner (p := Proc.scVector (cV L) (sV L)) (b := ref L b) h
  have ne (a b : Ref sig .scVector) (h : a ≠ b) : ref L a ≠ ref L b := fun e => absurd (Proc.devRef_injective _ e) h
  unfold SparseCore.Cfg.ownBufs
  refine (SparseCore.bigSep_erase' (i := ref L cc1_scratch0) (own cc1_scratch0 rfl)).trans ?_
  rw [SparseCore.bigSep_erase' (i := ref L cc1_scratch1) (by simp only [Finset.mem_erase]; exact ⟨ne _ _ (by decide), own _ rfl⟩),
    SparseCore.bigSep_erase' (i := ref L cc1_scratch2) (by simp only [Finset.mem_erase]; exact ⟨ne _ _ (by decide), ne _ _ (by decide), own _ rfl⟩),
    SparseCore.bigSep_erase' (i := ref L cc1_scratch3) (by simp only [Finset.mem_erase]; exact ⟨ne _ _ (by decide), ne _ _ (by decide), ne _ _ (by decide), own _ rfl⟩)]

/-- What the call hands task `(c, s)`: its shares of the four inputs and its rows of the two results, at what the call found. -/
abbrev goRes (d : Dev nD) (c : Fin 2) (s : Fin 16) : sProp 𝕄 :=
  iprop((jLoc d ↦{tq c s} jv A d) ∗ (iLoc d ↦{tq c s} iv A d) ∗ (yLoc d ↦{tq c s} yv A d) ∗ (zLoc d ↦{tq c s} zv A d)
    ∗ (gLoc d ↦[rowsOf c.val s.val]{fullShare} gv A d) ∗ (hLoc d ↦[rowsOf c.val s.val]{fullShare} hv A d))
/-- What the task brings back: the shares, and its rows of the results at the gathered rows. -/
abbrev tdRes (d : Dev nD) (c : Fin 2) (s : Fin 16) : sProp 𝕄 :=
  iprop((jLoc d ↦{tq c s} jv A d) ∗ (iLoc d ↦{tq c s} iv A d) ∗ (yLoc d ↦{tq c s} yv A d) ∗ (zLoc d ↦{tq c s} zv A d)
    ∗ (gLoc d ↦[rowsOf c.val s.val]{fullShare} gOut A d) ∗ (hLoc d ↦[rowsOf c.val s.val]{fullShare} hOut A d))

set_option maxHeartbeats 4000000 in
/-- The task on vector subcore `(L 0, L 1)` of device `d`: its 25 trips. -/
theorem tile_body [FloatOps F] (hF : (K (F := F)).Facts) (hA : InRows A) (O : CellTallies nD τ sig (HIx 1)) (W : Waits sig (HIx 1)) (hO : ∀ g, O g none = 0) :
    iprop(levAts (K (F := F)).L (K (F := F)).lev ∗ emp ∗ goRes A d (L 0) (L 1)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc1__sc_gather_body L yV (Memref.isWhole_whole _) zV (Memref.isWhole_whole _) jV (Memref.isWhole_whole _) iV (Memref.isWhole_whole _)
            gV (Memref.isWhole_whole _) hV (Memref.isWhole_whole _) s0V (Memref.isWhole_whole _) s1V (Memref.isWhole_whole _)
            r0V (Memref.isWhole_whole _) r1V (Memref.isWhole_whole _) cc1_scratch4 cc1_scratch5 cc1_scoped0 cc1_scoped1 cc1_scoped2 cc1_scoped3)
          fun _ => iprop(tdRes A d (L 0) (L 1)
            ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc1__sc_gather_body_eq_skeleton]; unfold cc1__sc_gather_body_skel
  rw [(K (F := F)).scopedBufs_V hF d (cV L) (sV L), SparseCore.Cfg.scopedSems0_V (Val := Elt F) d (cV L) (sV L), ownSems0_V, ownBufs_V]
  iintro ⟨#Hlv, -, ⟨Hj, Hi, Hy, Hz, Hg, Hh⟩, ⟨Hs0, Hs1, Hr0, Hr1, Hbufs⟩, ⟨HA, HB, HC, HD, HE, HF, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  sl_for (inv d L A O W) $$ [Hmw Hj Hi Hy Hz Hg Hh Hs0 Hs1 Hr0 Hr1 HA HB HC HD HE HF HO]
  case region => intro t u; exact trip d L A hA O W t u
  · unfold inv
    isplitl [Hmw]; · iexact Hmw
    isplitl [Hj]; · iexact Hj
    isplitl [Hi]; · iexact Hi
    isplitl [Hy]; · iexact Hy
    isplitl [Hz]; · iexact Hz
    isplitl [Hg]
    · iapply (Entails.of_eq (pointsTo_congr (ℓ := gLoc d) (q := fullShare) (I := rowsOf (L 0).val (L 1).val)
        (fun x hx => (mix_zero (L 0).val (L 1).val (gOut A d) (gv A d) x hx).symm)))
      iexact Hg
    isplitl [Hh]
    · iapply (Entails.of_eq (pointsTo_congr (ℓ := hLoc d) (q := fullShare) (I := rowsOf (L 0).val (L 1).val)
        (fun x hx => (mix_zero (L 0).val (L 1).val (hOut A d) (hv A d) x hx).symm)))
      iexact Hh
    isplitl [Hs0]; · iexact Hs0
    isplitl [Hs1]; · iexact Hs1
    isplitl [Hr0]; · iexact Hr0
    isplitl [Hr1]; · iexact Hr1
    isplitl [HA]; · iexact HA
    isplitl [HB]; · iexact HB
    isplitl [HC]; · iexact HC
    isplitl [HD]; · iexact HD
    isplitl [HE]; · iexact HE
    isplitl [HF]; · iexact HF
    iexists W; isplitr
    · ipureintro; exact fun p hp => .inl hp
    · iexact HO
  iintro %_ HI
  unfold inv
  icases HI with ⟨-, Hj, Hi, Hy, Hz, Hg, Hh, Hs0, Hs1, Hr0, Hr1, HA, HB, HC, HD, HE, HF, HO⟩
  sl_exec
  sl_step
  isplitl [Hj Hi Hy Hz Hg Hh]
  · isplitl [Hj]; · iexact Hj
    isplitl [Hi]; · iexact Hi
    isplitl [Hy]; · iexact Hy
    isplitl [Hz]; · iexact Hz
    isplitl [Hg]
    · iapply (Entails.of_eq (pointsTo_congr (ℓ := gLoc d) (q := fullShare) (I := rowsOf (L 0).val (L 1).val)
        (fun x hx => mix_last (L 0).val (L 1).val (gOut A d) (gv A d) x hx)))
      rw [← trips_eq]
      iexact Hg
    · iapply (Entails.of_eq (pointsTo_congr (ℓ := hLoc d) (q := fullShare) (I := rowsOf (L 0).val (L 1).val)
        (fun x hx => mix_last (L 0).val (L 1).val (hOut A d) (hv A d) x hx)))
      rw [← trips_eq]
      iexact Hh
  isplitl [Hs0 Hs1 Hr0 Hr1 Hbufs]
  · isplitl [Hs0]; · iexact Hs0
    isplitl [Hs1]; · iexact Hs1
    isplitl [Hr0]; · iexact Hr0
    isplitl [Hr1]; · iexact Hr1
    iexact Hbufs
  isplitl [HA HB HC HD HE HF Hsems]
  · isplitl [HA]; · iexact HA
    isplitl [HB]; · iexact HB
    isplitl [HC]; · iexact HC
    isplitl [HD]; · iexact HD
    isplitl [HE]; · iexact HE
    isplitl [HF]; · iexact HF
    iexact Hsems
  iexact HO

end Cert.KernelIdeal.Pf

end
-- ==== Proof.KI.Call.lean ====
/-
  The SparseCore call as a whole: what it takes from the TensorCore and what it gives back, how the 2 × 16 tasks share
  it, and that every task meets its obligation.
-/
module

public import proofs.«01_k».proof.Proof.KI.Tile

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (A : Dev nD → Valuation τ sig (Elt F))

/-! ## What the call takes and gives back -/

/-- The four inputs whole at what the call found, and the two results whole at `G` and `H`. -/
abbrev callRes (d : Dev nD) (G H : S320000x128.Idx → Elt F .f32) : sProp 𝕄 :=
  iprop((jLoc d ↦{fullShare} jv A d) ∗ (iLoc d ↦{fullShare} iv A d) ∗ (yLoc d ↦{fullShare} yv A d) ∗ (zLoc d ↦{fullShare} zv A d)
    ∗ (gLoc d ↦{fullShare} (G : Buf (Elt F) (gLoc d))) ∗ (hLoc d ↦{fullShare} (H : Buf (Elt F) (hLoc d))))

/-- Task `(c, s)`'s part of it: its shares of the inputs, its rows of the results. -/
abbrev partRes (d : Dev nD) (G H : S320000x128.Idx → Elt F .f32) (c : Fin 2) (s : Fin 16) : sProp 𝕄 :=
  iprop((jLoc d ↦{tq c s} jv A d) ∗ (iLoc d ↦{tq c s} iv A d) ∗ (yLoc d ↦{tq c s} yv A d) ∗ (zLoc d ↦{tq c s} zv A d)
    ∗ (gLoc d ↦[rowsOf c.val s.val]{fullShare} (G : Buf (Elt F) (gLoc d))) ∗ (hLoc d ↦[rowsOf c.val s.val]{fullShare} (H : Buf (Elt F) (hLoc d))))

/-- A buffer whole is the 32 tasks' shares of it. -/
theorem shares_split {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [ShareLeaves.pointsTo_leaves Finset.univ f 1 fullShare]
  exact bigSep_congr fun c _ => ShareLeaves.pointsTo_leaves Finset.univ f 4 _

/-- Different tasks' rows are disjoint. -/
theorem rows_disjoint : ∀ p ∈ (Finset.univ : Finset (Fin 2 × Fin 16)), ∀ q ∈ (Finset.univ : Finset (Fin 2 × Fin 16)), p ≠ q →
    Disjoint (rowsOf p.1.val p.2.val) (rowsOf q.1.val q.2.val) := by
  rintro ⟨c, s⟩ - ⟨c', s'⟩ - hne
  refine Finset.disjoint_left.mpr fun x h h' => hne ?_
  rw [mem_rowsOf] at h h'
  obtain ⟨h1, h2⟩ := h
  obtain ⟨h3, h4⟩ := h'
  have := c.isLt; have := c'.isLt
  dsimp only at h1 h2 h3 h4
  exact Prod.ext (Fin.ext (by dsimp only; omega)) (Fin.ext (by dsimp only; omega))

/-- Every row is some task's. -/
theorem rows_cover : (Finset.univ : Finset (Fin 2 × Fin 16)).biUnion (fun p => rowsOf p.1.val p.2.val) = Finset.univ := by
  refine Finset.eq_univ_of_forall fun x => Finset.mem_biUnion.mpr ?_
  have hx : (x 0).val < 320000 := (x 0).isLt
  refine ⟨(⟨(x 0).val / 10000 % 2, by omega⟩, ⟨(x 0).val / 20000, by omega⟩), Finset.mem_univ _, mem_rowsOf.mpr ?_⟩
  dsimp only
  constructor <;> omega

/-- `g` whole is the 32 tasks' rows of it. -/
theorem gRows_split (d : Dev nD) (f : Buf (Elt F) (gLoc d)) :
    (gLoc d ↦{fullShare} f : sProp 𝕄) = bigSep Finset.univ fun c : Fin 2 => bigSep Finset.univ fun s : Fin 16 => gLoc d ↦[rowsOf c.val s.val]{fullShare} f := by
  rw [← bigSep_univ_prod (fun p : Fin 2 × Fin 16 => (gLoc d ↦[rowsOf p.1.val p.2.val]{fullShare} f : sProp 𝕄)),
    ← pointsTo_biUnion Finset.univ (ℓ := gLoc d) (fun p : Fin 2 × Fin 16 => rowsOf p.1.val p.2.val) rows_disjoint, rows_cover]
  try rfl
/-- `h` whole is the 32 tasks' rows of it. -/
theorem hRows_split (d : Dev nD) (f : Buf (Elt F) (hLoc d)) :
    (hLoc d ↦{fullShare} f : sProp 𝕄) = bigSep Finset.univ fun c : Fin 2 => bigSep Finset.univ fun s : Fin 16 => hLoc d ↦[rowsOf c.val s.val]{fullShare} f := by
  rw [← bigSep_univ_prod (fun p : Fin 2 × Fin 16 => (hLoc d ↦[rowsOf p.1.val p.2.val]{fullShare} f : sProp 𝕄)),
    ← pointsTo_biUnion Finset.univ (ℓ := hLoc d) (fun p : Fin 2 × Fin 16 => rowsOf p.1.val p.2.val) rows_disjoint, rows_cover]
  try rfl

/-- What the call moves is the 32 tasks' parts of it. -/
theorem callRes_split (d : Dev nD) (G H : S320000x128.Idx → Elt F .f32) :
    callRes A d G H = bigSep Finset.univ fun c : Fin 2 => bigSep Finset.univ fun s : Fin 16 => partRes A d G H c s := by
  unfold callRes partRes
  rw [shares_split (ℓ := jLoc d) (jv A d), shares_split (ℓ := iLoc d) (iv A d), shares_split (ℓ := yLoc d) (yv A d),
    shares_split (ℓ := zLoc d) (zv A d), gRows_split, hRows_split]
  simp only [bigSep_sep']

/-! ## The handshakes' payloads -/

/-- SparseCore `c` is handed its 16 tasks' parts, each task its own; they come back with the results at the gathered
    rows. -/
def P : (K (F := F)).Pay (nD := nD) (Val := Elt F) (Name := ℕ) (U := UU) where
  st := fun q d c => match q with | 0 => bigSep Finset.univ fun s : Fin 16 => partRes A d (gv A d) (hv A d) (Fin.cast nCore_zero c) s
  dn := fun q d c => match q with | 0 => bigSep Finset.univ fun s : Fin 16 => partRes A d (gOut A d) (hOut A d) (Fin.cast nCore_zero c) s
  go := fun q d c i => match q with | 0 => partRes A d (gv A d) (hv A d) (Fin.cast nCore_zero c) (Fin.cast nSub_zero i)
  td := fun q d c i => match q with | 0 => partRes A d (gOut A d) (hOut A d) (Fin.cast nCore_zero c) (Fin.cast nSub_zero i)
  x := fun _ _ => iprop(emp)

instance P_storable : (P A).IsStorable where
  st q d c := match q with
    | 0 => (inferInstance : BI.Storable (upEmb : UEmb _ 𝕄) (bigSep Finset.univ fun s : Fin 16 => partRes A d (gv A d) (hv A d) (Fin.cast nCore_zero c) s))
  dn q d c := match q with
    | 0 => (inferInstance : BI.Storable (upEmb : UEmb _ 𝕄) (bigSep Finset.univ fun s : Fin 16 => partRes A d (gOut A d) (hOut A d) (Fin.cast nCore_zero c) s))
  go q d c i := match q with
    | 0 => (inferInstance : BI.Storable (upEmb : UEmb _ 𝕄) (partRes A d (gv A d) (hv A d) (Fin.cast nCore_zero c) (Fin.cast nSub_zero i)))
  td q d c i := match q with
    | 0 => (inferInstance : BI.Storable (upEmb : UEmb _ 𝕄) (partRes A d (gOut A d) (hOut A d) (Fin.cast nCore_zero c) (Fin.cast nSub_zero i)))

/-- What all SparseCores are handed is what the call takes. -/
theorem st_eq (d : Dev nD) : (bigSep Finset.univ fun c : Fin ((K (F := F)).nCore 0) => (P A).st 0 d c) = callRes A d (gv A d) (hv A d) :=
  (callRes_split A d (gv A d) (hv A d)).symm
/-- What they hand back is what the call gives. -/
theorem dn_eq (d : Dev nD) : (bigSep Finset.univ fun c : Fin ((K (F := F)).nCore 0) => (P A).dn 0 d c) = callRes A d (gOut A d) (hOut A d) :=
  (callRes_split A d (gOut A d) (hOut A d)).symm

/-- A SparseCore's parts are its tasks' parts, both ways. -/
theorem vecSplit : (K (F := F)).VecSplit' (P A) 0 := by
  intro d c
  show (P A).st 0 d c ⊢ |={Set.univ}=> iprop((P A).st 0 d c ∗ ((P A).dn 0 d c -∗ (P A).dn 0 d c))
  iintro H; imodintro
  isplitl [H]; · iexact H
  iintro H; iexact H

/-! ## The tasks' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__sc_gather_body (coordsV c s)
          (Memref.whole main_v3_0_scv) (Memref.isWhole_whole _) (Memref.whole main_v3_1_scv) (Memref.isWhole_whole _)
          (Memref.whole main_arg3_scv) (Memref.isWhole_whole _) (Memref.whole main_arg2_scv) (Memref.isWhole_whole _)
          (Memref.whole main_v4_0_scv) (Memref.isWhole_whole _) (Memref.whole main_v4_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2 cc1_scoped3) ⟨⟩ c s := rfl

theorem obl_post {thr : Thread nD τ} {B C E : sProp 𝕄} {O : CellTallies nD τ sig (HIx 1)} {W : Waits sig (HIx 1)} {q : Fin 1} :
    iprop(B ∗ C ∗ E ∗ ∃ W', ⌜∀ p ∈ W', p ∈ W ∨ p.2 = none⌝ ∗ owes thr O W')
      ⊢ iprop(B ∗ C ∗ E ∗ ∃ W', ⌜∀ p ∈ W', p ∈ W ∨ p.2 = none ∨ p.2 = some q⌝ ∗ owes thr O W') := by
  iintro ⟨HB, HC, HE, %W', %hW', HO⟩
  isplitl [HB]; · iexact HB
  isplitl [HC]; · iexact HC
  isplitl [HE]; · iexact HE
  iexists W'; isplitr
  · ipureintro; exact fun p hp => (hW' p hp).imp_right Or.inl
  · iexact HO

set_option maxRecDepth 16384 in
/-- Every task of the call, from its part at what the call found, leaves its part at the gathered rows. -/
theorem tileObl [FloatOps F] (hF : (K (F := F)).Facts) (hA : InRows A) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) A hF hA O W hO).trans (wp_mono frame _ _ fun _ => obl_post)

end Cert.KernelIdeal.Pf

end
-- ==== Proof.KI.Main.lean ====
/-
  The launch of the module's entry function: the buffers' contents between its steps, the ghost state it starts from, the
  TensorCore's run, and the whole program's.
-/
module

public import proofs.«01_k».proof.Proof.KI.Regions
public import proofs.«01_k».proof.Proof.KI.Call

@[expose] public section

noncomputable section

namespace Cert.KernelIdeal.Pf

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (arrRef)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents between the steps -/

/-- The three slices of the edge weights, and the reshape of the bias. -/
def op0 : HloOp τ sig (Elt F) := StableHlo.unary main_arg5 main_v0 ((extractStridedSlice S128x128 ![0, 0] · slices_S384x128_S128x128_0_0) : (⟨S384x128, .f32⟩ : BufTy).Contents (Elt F) → (⟨S128x128, .f32⟩ : BufTy).Contents (Elt F))
def op1 : HloOp τ sig (Elt F) := StableHlo.unary main_arg5 main_v1 ((extractStridedSlice S128x128 ![128, 0] · slices_S384x128_S128x128_128_0) : (⟨S384x128, .f32⟩ : BufTy).Contents (Elt F) → (⟨S128x128, .f32⟩ : BufTy).Contents (Elt F))
def op2 : HloOp τ sig (Elt F) := StableHlo.unary main_arg5 main_v2 ((extractStridedSlice S128x128 ![256, 0] · slices_S384x128_S128x128_256_0) : (⟨S384x128, .f32⟩ : BufTy).Contents (Elt F) → (⟨S128x128, .f32⟩ : BufTy).Contents (Elt F))
def op5 : HloOp τ sig (Elt F) := StableHlo.reshape main_arg6 main_v5 (rfl : (.f32 : EltTy) = .f32) shapeCasts_S128_S1x128

theorem op0_writes : (op0 (F := F)).writes = {Proc.devRef .tc main_v0} := rfl
theorem op1_writes : (op1 (F := F)).writes = {Proc.devRef .tc main_v1} := rfl
theorem op2_writes : (op2 (F := F)).writes = {Proc.devRef .tc main_v2} := rfl
theorem op5_writes : (op5 (F := F)).writes = {Proc.devRef .tc main_v5} := rfl

/-- At the launch. -/
def V0 (d : Dev nD) : Valuation τ sig (Elt F) := fun b => m (d, b)
/-- After the slices. -/
def V1 (d : Dev nD) : Valuation τ sig (Elt F) := op2.result (op1.result (op0.result (V0 m d)))
/-- After the tables' pipeline. -/
def V2 (d : Dev nD) : Valuation τ sig (Elt F) := Pipeline.afterRegion (dat0 (V1 m) d) (V1 m d)
/-- After the SparseCore call. -/
def V3 (d : Dev nD) : Valuation τ sig (Elt F) :=
  Function.update (Function.update (V2 m d) (Proc.devRef .tc main_v4_0) (gOut (V2 m) d)) (Proc.devRef .tc main_v4_1) (hOut (V2 m) d)
/-- After the bias' reshape. -/
def V4 (d : Dev nD) : Valuation τ sig (Elt F) := op5.result (V3 m d)
/-- At the end. -/
def V5 (d : Dev nD) : Valuation τ sig (Elt F) := Pipeline.afterRegion (dat2 (V4 m) d) (V4 m d)

/-- The launch's arguments. -/
def argRefs : Finset (Ref sig .tc) := {main_arg0, main_arg1, main_arg2, main_arg3, main_arg4, main_arg5, main_arg6}

theorem V1_arg (d : Dev nD) (r : Ref sig .tc) (hr : r ∈ argRefs) : V1 m d (Proc.devRef .tc r) = m (d, Proc.devRef .tc r) := by
  unfold V1
  rw [HloOp.result_of_not_mem, HloOp.result_of_not_mem, HloOp.result_of_not_mem]
  · rfl
  · rw [op0_writes]; revert r; decide
  · rw [op1_writes]; revert r; decide
  · rw [op2_writes]; revert r; decide

theorem V2_arg (d : Dev nD) (r : Ref sig .tc) (hr : r ∈ argRefs) : V2 m d (Proc.devRef .tc r) = m (d, Proc.devRef .tc r) := by
  unfold V2
  rw [Pipeline.afterRegion_keeps (dat0 (V1 m) d) (V1 m d) launch0.win.arr_inj (fun _ => rfl) r ?_]
  · exact V1_arg m d r hr
  · revert r; decide

theorem V4_arg (d : Dev nD) (r : Ref sig .tc) (hr : r ∈ argRefs) : V4 m d (Proc.devRef .tc r) = m (d, Proc.devRef .tc r) := by
  unfold V4 V3
  rw [HloOp.result_of_not_mem, Function.update_of_ne, Function.update_of_ne]
  · exact V2_arg m d r hr
  · revert r; decide
  · revert r; decide
  · rw [op5_writes]; revert r; decide

/-- The arguments are never written. -/
theorem V5_arg (d : Dev nD) (r : Ref sig .tc) (hr : r ∈ argRefs) : V5 m d (Proc.devRef .tc r) = m (d, Proc.devRef .tc r) := by
  unfold V5
  rw [Pipeline.afterRegion_keeps (dat2 (V4 m) d) (V4 m d) launch2.win.arr_inj (fun _ => rfl) r ?_]
  · exact V4_arg m d r hr
  · revert r; decide

/-! ## The call's buffers among the TensorCore's -/

/-- The six buffers the call works on. -/
def callRefs : Finset (DevRef τ sig) :=
  {Proc.devRef .tc main_arg3, Proc.devRef .tc main_arg2, Proc.devRef .tc main_v3_0, Proc.devRef .tc main_v3_1, Proc.devRef .tc main_v4_0, Proc.devRef .tc main_v4_1}

theorem callRefs_sub : callRefs ⊆ Pipeline.ucRefs τ sig := by decide

omit [FloatOps F] in
/-- Held at a valuation, they are what the call takes. -/
theorem held_callRefs (A : Dev nD → Valuation τ sig (Elt F)) (d : Dev nD) :
    (StableHlo.held (d : Thread nD τ) callRefs (A d) : sProp 𝕄) = callRes A d (gv A d) (hv A d) := by
  unfold StableHlo.held callRefs
  rw [SparseCore.bigSep_insert' (by decide), SparseCore.bigSep_insert' (by decide), SparseCore.bigSep_insert' (by decide),
    SparseCore.bigSep_insert' (by decide), SparseCore.bigSep_insert' (by decide), bigSep_singleton]

/-- After the call they are held at the next contents. -/
theorem held_callRefs_after (d : Dev nD) :
    (StableHlo.held (d : Thread nD τ) callRefs (V3 m d) : sProp 𝕄) = callRes (V2 m) d (gOut (V2 m) d) (hOut (V2 m) d) := by
  rw [held_callRefs (V3 m) d]
  have e (r : DevRef τ sig) (h1 : r ≠ Proc.devRef .tc main_v4_1) (h2 : r ≠ Proc.devRef .tc main_v4_0) : V3 m d r = V2 m d r := by
    unfold V3; rw [Function.update_of_ne h1, Function.update_of_ne h2]
  have hj : jv (V3 m) d = jv (V2 m) d := e _ (by decide) (by decide)
  have hi : iv (V3 m) d = iv (V2 m) d := e _ (by decide) (by decide)
  have hy : yv (V3 m) d = yv (V2 m) d := e _ (by decide) (by decide)
  have hz : zv (V3 m) d = zv (V2 m) d := e _ (by decide) (by decide)
  have hg : gv (V3 m) d = gOut (V2 m) d := by
    show V3 m d (Proc.devRef .tc main_v4_0) = _
    unfold V3; rw [Function.update_of_ne (by decide), Function.update_self]
  have hh : hv (V3 m) d = hOut (V2 m) d := by
    show V3 m d (Proc.devRef .tc main_v4_1) = _
    unfold V3; rw [Function.update_self]
  unfold callRes
  rw [hj, hi, hy, hz, hg, hh]

/-- The rest is untouched by the call. -/
theorem held_rest_after (d : Dev nD) :
    (StableHlo.held (d : Thread nD τ) (Pipeline.ucRefs τ sig \ callRefs) (V3 m d) : sProp 𝕄)
      = StableHlo.held (d : Thread nD τ) (Pipeline.ucRefs τ sig \ callRefs) (V2 m d) := by
  refine StableHlo.held_congr (d : Thread nD τ) fun b hb => ?_
  have hb' := (Finset.mem_sdiff.mp hb).2
  unfold V3
  rw [Function.update_of_ne, Function.update_of_ne]
  · rintro rfl; exact hb' (by decide)
  · rintro rfl; exact hb' (by decide)

/-! ## The ghost state of the launch -/

theorem phinj : Function.Injective (Pipeline.cellOf (nD := nD) (τ := τ) (Pipeline.pin (pcfgs (F := F)) adm)) := launch0.toP.cellOf_inj adm

/-- The handshakes' and the pipelines' rounds at their start. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the TensorCore gets of it: both pipelines' cells and tokens. -/
abbrev GH (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem hu₀ (A : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P A).x q thr) := by
  unfold u₀
  iintro Hu
  ihave H := (ownU_pair (initOf (K (F := F)).hsCells (K (F := F)).hsToks) _) $$ Hu
  icases H with ⟨HH, HR⟩
  ihave H := (own_pair_emb embR (initOf (Pipeline.cells (Pipeline.pin (pcfgs (F := F)) adm) phinj) (Pipeline.launchToks (Pipeline.pin (pcfgs (F := F)) adm) phinj)) (1 : Counters)) $$ HR
  icases H with ⟨HP, -⟩
  imod (Pipeline.fund_ghost (Pipeline.pin (pcfgs (F := F)) adm) EP phinj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The TensorCore's run -/

/-- A pipeline's call in the SparseCore program's signature. -/
theorem region_step (W0 W2 : Dev nD → Valuation τ sig (Elt F)) (p : Fin 2)
    (R : Pipeline.RegionSeg (pcfgs (F := F)) adm (pdats W0 W2) (none : HIx 1) (defs₀ (F := F)) 𝒱₀ (K (F := F)).L (K (F := F)).lev p)
    (d : Dev nD) (Φ : PUnit → sProp 𝕄) :
    iprop((iprop(boundary (d : Thread nD τ) ∗ R.post d) -∗ Φ ⟨⟩) ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d : Thread nD τ) none) Set.univ
          (Prog.lift (.customCall (SparseCore.inner (Pipeline.entry p)) ())) Φ := by
  have h1 := Pipeline.RegionSeg.wp (pcfgs (F := F)) adm (pdats W0 W2) none phinj EP (defs₀ (F := F)) 𝒱₀ (K (F := F)).L (K (F := F)).lev R d none
      (fun _ h => nomatch h) (fun _ => .ret ⟨⟩) Φ
  have h2 := (K (F := F)).wp_liftProg (D (F := F)) 𝒱 (d : Thread nD τ) Set.univ none (.op (.customCall (Pipeline.entry p) ()) fun _ => .ret ⟨⟩) Φ
  have h3 : iprop((iprop(boundary (d : Thread nD τ) ∗ R.post d) -∗ Φ ⟨⟩) ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) ⊢ _ :=
    (show _ ⊢ _ from by
      iintro ⟨Hk, H⟩
      isplitl [Hk]
      · iintro HR
        rw [wp_ret]
        imodintro
        iapply Hk; iexact HR
      iexact H).trans h1
  exact h3.trans h2

omit [FloatOps F] in
/-- The launch's buffers are held at the launch's contents. -/
theorem unscoped_held (d : Dev nD) :
    (unscopedBufs d (fun b => m ((SparseCore.T d).loc b)) : sProp 𝕄) = StableHlo.held (d : Thread nD τ) (Pipeline.ucRefs τ sig) (V0 m d) :=
  Pipeline.unscopedBufs_held d (V0 m d)

theorem op0_sub : (op0 (F := F)).bufs ⊆ Pipeline.ucRefs τ sig := Pipeline.sub_ucRefs _ (StableHlo.unary_bufs_sub ..)
theorem op1_sub : (op1 (F := F)).bufs ⊆ Pipeline.ucRefs τ sig := Pipeline.sub_ucRefs _ (StableHlo.unary_bufs_sub ..)
theorem op2_sub : (op2 (F := F)).bufs ⊆ Pipeline.ucRefs τ sig := Pipeline.sub_ucRefs _ (StableHlo.unary_bufs_sub ..)
theorem op5_sub : (op5 (F := F)).bufs ⊆ Pipeline.ucRefs τ sig := Pipeline.sub_ucRefs _ (StableHlo.reshape_bufs_sub ..)

omit [FloatOps F] in
/-- A family over the two pipelines, one by one. -/
theorem bigSep_two (Φ : Fin 2 → sProp 𝕄) : bigSep Finset.univ Φ = iprop(Φ 0 ∗ Φ 1) := by
  rw [show (Finset.univ : Finset (Fin 2)) = {0, 1} from rfl, SparseCore.bigSep_insert' (by decide), bigSep_singleton]

/-- What the TensorCore ends with: all its buffers at the final contents. -/
abbrev FIN (d : Dev nD) : sProp 𝕄 := StableHlo.held (d : Thread nD τ) (Pipeline.ucRefs τ sig) (V5 m d)

theorem reg0_pre (d : Dev nD) : (reg0 (V1 m) (V4 m)).pre d = iprop(StableHlo.held (d : Thread nD τ) (Pipeline.ucRefs τ sig) (V1 m d) ∗ owing (F := F) d 0) := rfl
theorem reg0_post (d : Dev nD) : (reg0 (V1 m) (V4 m)).post d = iprop(StableHlo.held (d : Thread nD τ) (Pipeline.ucRefs τ sig) (V2 m d) ∗ owing (F := F) d 0) := rfl
theorem reg2_pre (d : Dev nD) : (reg2 (V1 m) (V4 m)).pre d = iprop(StableHlo.held (d : Thread nD τ) (Pipeline.ucRefs τ sig) (V4 m d) ∗ owing (F := F) d 1) := rfl
theorem reg2_post (d : Dev nD) : (reg2 (V1 m) (V4 m)).post d = iprop(StableHlo.held (d : Thread nD τ) (Pipeline.ucRefs τ sig) (V5 m d) ∗ owing (F := F) d 1) := rfl

/-- The TensorCore's state before call `n` is what it owes, beside its standing in the handshakes. -/
theorem tcSt_split (d : Dev nD) (n : ℕ) : ∃ R : sProp 𝕄, (K (F := F)).tcSt EH d n = iprop(owing (F := F) d n ∗ R) := ⟨_, rfl⟩

set_option maxHeartbeats 2000000 in
/-- The TensorCore's run: the slices, the tables, the call, the reshape, the combining. -/
theorem hmain (κ : GSem nD τ sig → ℕ) (d : Dev nD) :
    iprop((K (F := F)).ctx EH (P (V2 m)) κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, hR0⟩ := tcSt_split (F := F) d 0
  obtain ⟨R1, hR1⟩ := tcSt_split (F := F) d 1
  unfold SparseCore.Cfg.tcRes SparseCore.Cfg.tcEnd
  rw [unscoped_held]
  simp only [main, wp_bind, wp_pure]
  iintro ⟨#Hctx, Hst, ⟨Hb, HV, Hts, -⟩, Hc, Ht⟩
  ihave Hc' := (Entails.of_eq (bigSep_two _)) $$ Hc
  icases Hc' with ⟨Hc0, Hc1⟩
  ihave Ht' := (Entails.of_eq (bigSep_two _)) $$ Ht
  icases Ht' with ⟨Ht0, Ht1⟩
  ihave #Hlev := ((K (F := F)).ctx_levAts κ) $$ Hctx
  -- the slices
  iapply (StableHlo.wp_hlo_within 𝒱 (SparseCore.T d) none Set.univ op0_sub) $$ [Hb HV]
  · isplitl [Hb] <;> iassumption
  iintro ⟨Hb, HV⟩
  rw [wp_ret]; imodintro
  iapply (StableHlo.wp_hlo_within 𝒱 (SparseCore.T d) none Set.univ op1_sub) $$ [Hb HV]
  · isplitl [Hb] <;> iassumption
  iintro ⟨Hb, HV⟩
  rw [wp_ret]; imodintro
  iapply (StableHlo.wp_hlo_within 𝒱 (SparseCore.T d) none Set.univ op2_sub) $$ [Hb HV]
  · isplitl [Hb] <;> iassumption
  iintro ⟨Hb, HV⟩
  rw [wp_ret]; imodintro
  -- the tables
  ihave Hst' := (Entails.of_eq hR0) $$ Hst
  icases Hst' with ⟨HO, Hst⟩
  iapply (region_step (V1 m) (V4 m) 0 (reg0 (V1 m) (V4 m)) d)
  rw [reg0_pre, reg0_post]
  isplitr [Hb HV HO Hc0 Ht0]
  swap
  · isplitl [Hb]; · iexact Hb
    isplitl [HV HO]
    · isplitl [HV]; · iexact HV
      iexact HO
    isplitr; · iexact Hlev
    isplitl [Hc0] <;> iassumption
  iintro ⟨Hb, HV, HO⟩
  -- the call
  ihave HV' := (Entails.of_eq (StableHlo.held_sub_split (d : Thread nD τ) callRefs_sub (V2 m d))) $$ HV
  icases HV' with ⟨Hcall, Hrest⟩
  iapply ((K (F := F)).wp_run (D (F := F)) 𝒱 (EH := EH) (P := P (V2 m)) κ d 0)
  isplitr; · iexact Hctx
  isplitl [HO Hst]
  · iapply (Entails.of_eq hR0.symm)
    isplitl [HO]; · iexact HO
    iexact Hst
  isplitl [Hcall]
  · rw [st_eq, ← held_callRefs]; iexact Hcall
  iintro ⟨Hst, Hdn⟩
  ihave Hdn' := (Entails.of_eq ((dn_eq (V2 m) d).trans (held_callRefs_after m d).symm)) $$ Hdn
  ihave Hrest' := (Entails.of_eq (held_rest_after m d).symm) $$ Hrest
  ihave HV := (Entails.of_eq (StableHlo.held_sub_split (d : Thread nD τ) callRefs_sub (V3 m d)).symm) $$ [Hdn' Hrest']
  · isplitl [Hdn'] <;> iassumption
  -- the reshape
  iapply (StableHlo.wp_hlo_within 𝒱 (SparseCore.T d) none Set.univ op5_sub) $$ [Hb HV]
  · isplitl [Hb] <;> iassumption
  iintro ⟨Hb, HV⟩
  rw [wp_ret]; imodintro
  -- the combining
  ihave Hst' := (show (K (F := F)).tcSt EH d ((0 : Fin 1).val + 1) ⊢ iprop(owing (F := F) d 1 ∗ R1) from Entails.of_eq hR1) $$ Hst
  icases Hst' with ⟨HO, Hst⟩
  iapply (region_step (V1 m) (V4 m) 1 (reg2 (V1 m) (V4 m)) d)
  rw [reg2_pre, reg2_post]
  isplitr [Hb HV HO Hc1 Ht1]
  swap
  · isplitl [Hb]; · iexact Hb
    isplitl [HV HO]
    · isplitl [HV]; · iexact HV
      iexact HO
    isplitr; · iexact Hlev
    isplitl [Hc1] <;> iassumption
  iintro ⟨Hb, HV, HO⟩
  imodintro
  isplitl [HO Hst]
  · iapply (Entails.of_eq hR1.symm)
    isplitl [HO]; · iexact HO
    iexact Hst
  isplitl [HV]; · iexact HV
  isplitl [Hb] <;> iassumption

/-! ## The program's run -/

/-- What the final memory holds: every buffer of the TensorCore at the final contents. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  have e : (FIN m d : sProp 𝕄) = bigSep (Pipeline.ucRefs τ sig) fun b => (d, b) ↦{fullShare} V5 m d b := rfl
  rw [e]
  iintro ⟨H, HSI⟩
  iapply (SI_pointsTo_bufs_agree (st := s') (c := d) (qs := fun _ => fullShare) (F := V5 m d) (Pipeline.ucRefs τ sig))
  isplitl [HSI]; · iexact HSI
  iexact H

/-- The index arrays name rows of the tables. -/
def PreOK : Prop := InRows (V0 m)

theorem inRows_V2 (h : PreOK m) : InRows (V2 m) := fun d => by
  have hj : jv (V2 m) d = jv (V0 m) d := V2_arg m d main_arg3 (by decide)
  have hi : iv (V2 m) d = iv (V0 m) d := V2_arg m d main_arg2 (by decide)
  rw [hj, hi]
  exact h d

/-- Every run from indices in range ends with every TensorCore buffer at the final contents and no semaphore raised. -/
theorem run_main [∀ e, Nonempty (Elt F e)] (h : PreOK m) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := P (V2 m)) (A := ∅) facts v₀
    (fun q hq => match q with | 0 => nomatch hq)
    (fun q _ => match q with | 0 => tileObl (V2 m) facts (inRows_V2 m h))
    (fun q _ => match q with | 0 => SparseCore.Cfg.VecSplit.of_plain (vecSplit (V2 m)))
    m ρ main (fun d => GH (F := F) d) (FIN m) (u₀ (F := F)) (sep_elim_left.trans (hu₀ (V2 m))) (hmain m ρ) (fq m) (hfin m) _ (fun _ h hz => ⟨h, hz⟩)

end Cert.KernelIdeal.Pf

end
-- ==== Proof.KI.Frame.lean ====
/-
  The kernel's frame: from every launch memory whose index words name rows of the node table, its execution terminates
  without fault, its arguments end unchanged, and every semaphore counter ends at zero.
-/
module

public import proofs.«01_k».proof.Defs
public import proofs.«01_k».proof.Proof.Pre
public import proofs.«01_k».proof.Proof.KI.Main

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]

/-- An argument of the launch ends with its launch contents, on every device. -/
theorem arg_kept (m : (ℓ : Loc nD τ sig) → Buf (Elt F) ℓ) (mem : (ℓ : Loc nD τ sig) → Buf (Elt F) ℓ)
    (h : ∀ d : Dev nD, ∀ b ∈ Pipeline.ucRefs τ sig, mem (d, b) = V5 m d b) (c : Dev nD) (r : Ref sig .tc) (hr : r ∈ argRefs)
    (hu : Proc.devRef (τ := τ) .tc r ∈ Pipeline.ucRefs τ sig) :
    mem ((c.tc : Thread nD τ).loc r) = m ((c.tc : Thread nD τ).loc r) :=
  (h c _ hu).trans (V5_arg m c r hr)

/-- All seven arguments end with their launch contents. -/
theorem args_kept (m : (ℓ : Loc nD τ sig) → Buf (Elt F) ℓ) (mem : (ℓ : Loc nD τ sig) → Buf (Elt F) ℓ)
    (h : ∀ d : Dev nD, ∀ b ∈ Pipeline.ucRefs τ sig, mem (d, b) = V5 m d b) (c : Dev nD) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6) :=
  ⟨arg_kept m mem h c _ (by decide) (by decide), arg_kept m mem h c _ (by decide) (by decide), arg_kept m mem h c _ (by decide) (by decide),
    arg_kept m mem h c _ (by decide) (by decide), arg_kept m mem h c _ (by decide) (by decide), arg_kept m mem h c _ (by decide) (by decide),
    arg_kept m mem h c _ (by decide) (by decide)⟩

/-- The first printed precondition gives what the run asks of the launch memory. -/
theorem ok_of_pre (m : (ℓ : Loc nD τ sig) → Buf (Elt Ideal) ℓ) (h : Cert.Pre_KernelIdeal m) : PreOK (F := Ideal) m :=
  fun d => Cert.Pf.rows_of_pre _ _ _ _ _ _ _ (h d)

/-- So does the second, which asks for finite entries too. -/
theorem ok_of_pre_finite (m : (ℓ : Loc nD τ sig) → Buf (Elt Ideal) ℓ) (h : Cert.Pre_KernelIdeal_in_rows_finite m) : PreOK (F := Ideal) m :=
  fun d => (Cert.Pf.rows_of_pre_finite _ _ _ _ _ _ _ (h d)).1

/-- `Cert.quiescent_KernelIdeal`. -/
theorem frame_kernel : Cert.quiescent_KernelIdeal := fun m ρ hpre =>
  (θ_run Cert.KernelIdeal.defs _ _).mono (fun _ h => ⟨args_kept m _ h.1, h.2⟩) (run_main (F := Ideal) m ρ (ok_of_pre m hpre))

/-- `Cert.quiescent_KernelIdeal_pre_in_rows_finite`. -/
theorem frame_kernel_finite : Cert.quiescent_KernelIdeal_pre_in_rows_finite := fun m ρ hpre =>
  (θ_run Cert.KernelIdeal.defs _ _).mono (fun _ h => ⟨args_kept m _ h.1, h.2⟩) (run_main (F := Ideal) m ρ (ok_of_pre_finite m hpre))

end Cert.KernelIdeal.Pf

end
-- ==== Proof.Spec.lean ====
/-
  The edge layer over the extended reals, entry by entry, and the one law of arithmetic on which the kernel's grouping of its
  products and the reference's agree.
-/
module

public import Idealize.ShloMosaic.PureOps.Ideal.Laws
public import Idealize.ShloMosaic.Lib.ValueIdx
public import Idealize.ShloMosaic.Lib.IdealHost

@[expose] public section

noncomputable section

namespace Cert.Pf

open Idealize.ShloMosaic Idealize.ShloMosaic.ValueIdx
open scoped BigOperators

/-- The row of a table of ten thousand rows that an index word names. -/
def nodeOf (w : BitVec 32) : Fin 10000 := ⟨w.toNat % 10000, Nat.mod_lt _ (by decide)⟩

section

variable (x : FVec Ideal ⟨2, ![10000, 128]⟩ .f32) (rbf : FVec Ideal ⟨2, ![320000, 16]⟩ .f32)
  (ii jj : IVec ⟨1, ![320000]⟩ 32) (W : FVec Ideal ⟨2, ![16, 128]⟩ .f32) (We : FVec Ideal ⟨2, ![384, 128]⟩ .f32)
  (b : FVec Ideal ⟨1, ![128]⟩ .f32)

/-- The share of entry `k` of an edge that comes from a node's row: the row times 128 rows of the edge weights from `off`. -/
def nodePart (off : ℕ) (ho : off + 128 ≤ 384) (n : Fin 10000) (k : Fin 128) : EReal :=
  ∑ c : Fin 128, x (ix2 n c) * We (ix2 (⟨off + c.val, by omega⟩ : Fin 384) k)

/-- The share that comes from the edge's radial basis, embedded first and then weighted. -/
def radialPart (e : Fin 320000) (k : Fin 128) : EReal :=
  ∑ c : Fin 128, (∑ r : Fin 16, rbf (ix2 e r) * W (ix2 r c)) * We (ix2 (⟨256 + c.val, by omega⟩ : Fin 384) k)

/-- Entry `k` of edge `e` before the activation. -/
def lin (e : Fin 320000) (k : Fin 128) : EReal :=
  nodePart x We 0 (by omega) (nodeOf (jj (ix1 e))) k + nodePart x We 128 (by omega) (nodeOf (ii (ix1 e))) k
    + radialPart rbf W We e k + b (ix1 k)

/-- Entry `k` of edge `e` of the layer: the sum times its logistic. -/
def layer (e : Fin 320000) (k : Fin 128) : EReal :=
  lin x rbf ii jj W We b e k * Ideal.logistic (lin x rbf ii jj W We b e k)

end

/-- Two finite matrices and a finite vector: the product may be grouped either way. -/
theorem regroup {n m : ℕ} (u : Fin n → EReal) (M : Fin n → Fin m → EReal) (v : Fin m → EReal)
    (hu : ∀ r, u r ≠ ⊤ ∧ u r ≠ ⊥) (hM : ∀ r c, M r c ≠ ⊤ ∧ M r c ≠ ⊥) (hv : ∀ c, v c ≠ ⊤ ∧ v c ≠ ⊥) :
    ∑ r, u r * ∑ c, M r c * v c = ∑ c, (∑ r, u r * M r c) * v c := by
  obtain ⟨u', rfl⟩ : ∃ u' : Fin n → ℝ, u = fun r => (u' r : EReal) :=
    ⟨fun r => (u r).toReal, funext fun r => (EReal.coe_toReal (hu r).1 (hu r).2).symm⟩
  obtain ⟨M', rfl⟩ : ∃ M' : Fin n → Fin m → ℝ, M = fun r c => (M' r c : EReal) :=
    ⟨fun r c => (M r c).toReal, funext fun r => funext fun c => (EReal.coe_toReal (hM r c).1 (hM r c).2).symm⟩
  obtain ⟨v', rfl⟩ : ∃ v' : Fin m → ℝ, v = fun c => (v' c : EReal) :=
    ⟨fun c => (v c).toReal, funext fun c => (EReal.coe_toReal (hv c).1 (hv c).2).symm⟩
  have hs : ∀ {ι : Type} (s : Finset ι) (f : ι → ℝ), (∑ i ∈ s, ((f i : ℝ) : EReal)) = ((∑ i ∈ s, f i : ℝ) : EReal) := fun s f => by
    classical
    induction s using Finset.induction_on with
    | empty => simp
    | insert a s ha ih => rw [Finset.sum_insert ha, Finset.sum_insert ha, ih, EReal.coe_add]
  simp only [← EReal.coe_mul, hs]
  congr 1
  simp only [Finset.mul_sum, Finset.sum_mul]
  rw [Finset.sum_comm]
  exact Finset.sum_congr rfl fun c _ => Finset.sum_congr rfl fun r _ => (mul_assoc _ _ _).symm

end Cert.Pf

end
-- ==== Proof.Ref.lean ====
/-
  The reference over the extended reals: its frame, and its result read entry by entry as the edge layer.
-/
module

public import proofs.«01_k».proof.Defs
public import proofs.«01_k».proof.Proof.Spec
public import proofs.«01_k».proof.Proof.Gen.ReferenceIdeal.Run
public import proofs.«01_k».proof.Proof.Gen.Pre_in_rows_finite
public import Idealize.ShloMosaic.Lib.Routing.Ops
public import Idealize.ShloMosaic.Lib.Routing.OpsPair
public import Idealize.ShloMosaic.Lib.ReduceAll
public import Idealize.ShloMosaic.Lib.StackMember

@[expose] public section

noncomputable section

namespace Cert.ReferenceIdeal.Pf

open Cert.ReferenceIdeal Cert.ReferenceIdeal.Gen
open Idealize.ShloMosaic Idealize.ShloMosaic.TcCoe Idealize.SL.Sem Idealize.ShloMosaic.ValueIdx Idealize.ShloMosaic.Routing
open Cert.Pf (nodeOf nodePart radialPart lin layer)
open scoped BigOperators

/-! ## The frame -/

/-- `Cert.quiescent_ReferenceIdeal`: the reference declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Value.run (F := Ideal) m ρ)

/-- `Cert.quiescent_ReferenceIdeal_pre_in_rows_finite`. -/
theorem frame_ref_finite : Cert.quiescent_ReferenceIdeal_pre_in_rows_finite := fun m ρ _ =>
  (θ_run Cert.ReferenceIdeal.defs _ _).mono (fun r h => ⟨fun c => (h c).2, sem_eq_zero_of_no_sems (by decide) r.2⟩)
    (Value.run (F := Ideal) m ρ)

/-! ## The take -/

/-- The start indices of a take: a negative word wraps round the table, and the words become one column. -/
def starts (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- The rows whose start index lies in the table. -/
def inside (idx : IVec S320000 32) : IVec S320000 1 :=
  Host.reduce IntOp.andi (andi (cmpi .sge (starts idx) (broadcastInDim S320000x1 ![] bcast_S_S320000x1 (constantI S_ 32 0#32)))
    (cmpi .sle (starts idx) (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The take: the rows inside are gathered, the others are filled. -/
def taken (x : FVec Ideal S10000x128 .f32) (idx : IVec S320000 32) : FVec Ideal S320000x128 .f32 :=
  select (broadcastInDim S320000x128 ![0] bcast_S320000_S320000x128_0 (inside idx))
    (Host.gather gather_S10000x128_S320000x1_S320000x128_1_0_n_n_0_1_1128 x (starts idx))
    (broadcastInDim S320000x128 ![] bcast_S_S320000x128 (constant S_ .f32 0x7FC00000#32))

section Take

variable (idx : IVec S320000 32) (h : ∀ i, (idx i).toNat < 10000)
include h

/-- A word in range is its own start index. -/
theorem starts_apply (e : Fin 320000) : starts idx (ix2 e (0 : Fin 1)) = idx (ix1 e) := by
  unfold starts
  refine (bcCol bcast_S320000_S320000x1_0 _ e).trans ?_
  exact wrap_of_lt _ _ (lt_of_lt_of_le (h _) (by norm_num))

/-- Every row lies inside. -/
theorem inside_apply (j : S320000.Idx) : inside idx j = 1#1 := by
  unfold inside
  refine Host.reduce_andi_one _ _ _ _ _ rfl fun i => ?_
  obtain ⟨e, rfl⟩ : ∃ e : Fin 320000, i = ix2 e (0 : Fin 1) :=
    ⟨i 0, (eq_ix2 i).trans (congrArg (ix2 (i 0)) (Subsingleton.elim (α := Fin 1) _ _))⟩
  have hw : (starts idx (ix2 e (0 : Fin 1))).toNat < 10000 := by rw [starts_apply idx h]; exact h _
  have hi : (starts idx (ix2 e (0 : Fin 1))).toInt = (starts idx (ix2 e (0 : Fin 1))).toNat := by
    rw [BitVec.toInt_eq_toNat_cond, if_pos (by omega)]
  refine IntOp.andi_eq_one.2 ⟨?_, ?_⟩
  · refine IntOp.cmpi_sge.2 ?_
    show (0#32).toInt ≤ (starts idx (ix2 e (0 : Fin 1))).toInt
    rw [hi, show (0#32).toInt = 0 from rfl]; omega
  · refine IntOp.cmpi_sle.2 ?_
    show (starts idx (ix2 e (0 : Fin 1))).toInt ≤ (9999#32).toInt
    rw [hi, show (9999#32).toInt = 9999 from rfl]; omega

/-- The take at an index in range is the table's row. -/
theorem taken_apply (x : FVec Ideal S10000x128 .f32) (e : Fin 320000) (c : Fin 128) :
    taken x idx (ix2 e c) = x (ix2 (nodeOf (idx (ix1 e))) c) := by
  unfold taken
  rw [select_apply]
  rw [show broadcastInDim S320000x128 ![0] bcast_S320000_S320000x128_0 (inside idx) (ix2 e c) = 1#1 from inside_apply idx h _]
  rw [select_one]
  refine gather_row _ rfl rfl rfl rfl rfl x _ e c _ ?_ (by norm_num)
  rw [starts_apply idx h]
  show _ = BitVec.ofNat 32 ((idx (ix1 e)).toNat % 10000)
  rw [Nat.mod_eq_of_lt (h _), BitVec.ofNat_toNat, BitVec.setWidth_eq]

end Take

/-! ## The result -/

section Result

variable (x : FVec Ideal S10000x128 .f32) (rbf : FVec Ideal S320000x16 .f32) (ii jj : IVec S320000 32)
  (W : FVec Ideal S16x128 .f32) (We : FVec Ideal S384x128 .f32) (b : FVec Ideal S128 .f32)

/-- The embedded radial basis. -/
def embedded : FVec Ideal S320000x128 .f32 := Host.dotGeneral dot_S320000x16_S16x128_S320000x128_1_0_0_1_n_n none rbf W

/-- The two gathered rows and the embedded radial basis. -/
abbrev parts : List ((s : Shape) × (s.Idx → Ideal .f32)) :=
  [⟨S320000x128, taken x jj⟩, ⟨S320000x128, taken x ii⟩, ⟨S320000x128, embedded rbf W⟩]

/-- The three side by side. -/
def joined : FVec Ideal S320000x384 .f32 :=
  concatenate S320000x384 1 (parts x rbf ii jj W) concatenates_S320000x128_S320000x128_S320000x128_S320000x384_d1

/-- The layer's sum. -/
def total : FVec Ideal S320000x128 .f32 :=
  addf (Host.dotGeneral dot_S320000x384_S384x128_S320000x128_1_0_0_1_n_n none (joined x rbf ii jj W) We)
    (broadcastInDim S320000x128 ![0, 1] bcast_S1x128_S320000x128_0_1 (broadcastInDim S1x128 ![1] bcast_S128_S1x128_1 b))

/-- The constant one at every place. -/
def ones : FVec Ideal S320000x128 .f32 := broadcastInDim S320000x128 ![] bcast_S_S320000x128 (constant S_ .f32 0x3F800000#32)

/-- The activation of an array: each entry over one plus the exponential of its negative. -/
def act (t : FVec Ideal S320000x128 .f32) : FVec Ideal S320000x128 .f32 :=
  mulf t (Host.divf ones (addf ones (Host.exp (Host.negf (mulf ones t)))))

/-- The layer's result. -/
def result : FVec Ideal S320000x128 .f32 := act (total x rbf ii jj W We b)

theorem ones_apply (i : S320000x128.Idx) : ones i = (1 : EReal) :=
  (broadcastInDim_apply _ _ _ i (fun a => a.elim0) fun a => a.elim0).trans Ideal.ofBits_one_f32

/-- The activation of an entry is the entry times its logistic. -/
theorem act_apply (t : FVec Ideal S320000x128 .f32) (i : S320000x128.Idx) : act t i = (t i : EReal) * Ideal.logistic (t i) := by
  unfold act
  rw [mulf_apply, hostDivf_apply, addf_apply, ones_apply]
  refine congrArg (fun z : EReal => (t i : EReal) * Ideal.div 1 (1 + z)) ?_
  show Ideal.exp (-((ones i : EReal) * t i)) = _
  rw [ones_apply, one_mul]

theorem embedded_apply (e : Fin 320000) (c : Fin 128) :
    embedded rbf W (ix2 e c) = ∑ r : Fin 16, rbf (ix2 e r) * W (ix2 r c) :=
  StackMember.dotGeneral_plain_apply none rbf W e c

/-- Off the joined axis, the two indices agree. -/
theorem off_axis (e : Fin 320000) (c : Fin 128) (p : Fin 384) (a : Fin S320000x128.rank)
    (ha : a.cast (rfl : S320000x128.rank = S320000x384.rank) ≠ 1) :
    ((ix2 e c : S320000x128.Idx) a).val = ((ix2 e p : S320000x384.Idx) (a.cast rfl)).val :=
  match a, ha with
  | ⟨0, _⟩, _ => rfl
  | ⟨1, _⟩, ha => absurd rfl ha

theorem joined_left (e : Fin 320000) (c : Fin 128) :
    joined x rbf ii jj W (ix2 e (⟨0 + c.val, by omega⟩ : Fin 384)) = taken x jj (ix2 e c) :=
  concatenate_apply_piece (t := S320000x384) 1 (parts x rbf ii jj W) concatenates_S320000x128_S320000x128_S320000x128_S320000x384_d1
    (ix2 e (⟨0 + c.val, by omega⟩ : Fin 384)) 0 (by show 0 < 3; omega) S320000x128 _ rfl rfl 0 rfl (ix2 e c) (off_axis e c _) rfl

theorem joined_mid (e : Fin 320000) (c : Fin 128) :
    joined x rbf ii jj W (ix2 e (⟨128 + c.val, by omega⟩ : Fin 384)) = taken x ii (ix2 e c) :=
  concatenate_apply_piece (t := S320000x384) 1 (parts x rbf ii jj W) concatenates_S320000x128_S320000x128_S320000x128_S320000x384_d1
    (ix2 e (⟨128 + c.val, by omega⟩ : Fin 384)) 1 (by show 1 < 3; omega) S320000x128 _ rfl rfl 128 rfl (ix2 e c) (off_axis e c _) rfl

theorem joined_right (e : Fin 320000) (c : Fin 128) :
    joined x rbf ii jj W (ix2 e (⟨256 + c.val, by omega⟩ : Fin 384)) = embedded rbf W (ix2 e c) :=
  concatenate_apply_piece (t := S320000x384) 1 (parts x rbf ii jj W) concatenates_S320000x128_S320000x128_S320000x128_S320000x384_d1
    (ix2 e (⟨256 + c.val, by omega⟩ : Fin 384)) 2 (by show 2 < 3; omega) S320000x128 _ rfl rfl 256 rfl (ix2 e c) (off_axis e c _) rfl

/-- A sum over 384 places, in three stretches of 128. -/
theorem sum_384 (f : Fin 384 → EReal) :
    ∑ c, f c = (∑ c : Fin 128, f ⟨0 + c.val, by omega⟩) + (∑ c : Fin 128, f ⟨128 + c.val, by omega⟩) + ∑ c : Fin 128, f ⟨256 + c.val, by omega⟩ := by
  rw [Fin.sum_univ_add (a := 256) (b := 128) f, Fin.sum_univ_add (a := 128) (b := 128) fun i => f (Fin.castAdd 128 i)]
  refine congrArg₂ (· + ·) (congrArg₂ (· + ·) ?_ rfl) rfl
  exact Finset.sum_congr rfl fun c _ => congrArg f (Fin.ext (Nat.zero_add _).symm)

variable (hi : ∀ e, (ii e).toNat < 10000) (hj : ∀ e, (jj e).toNat < 10000)
include hi hj

theorem total_apply (e : Fin 320000) (k : Fin 128) : total x rbf ii jj W We b (ix2 e k) = lin x rbf ii jj W We b e k := by
  unfold total lin
  rw [addf_apply]
  refine congrArg₂ (· + ·) ?_ (bcCols bcast_S128_S1x128_1 bcast_S1x128_S320000x128_0_1 b e k)
  refine (StackMember.dotGeneral_plain_apply none _ We e k).trans ?_
  rw [sum_384]
  refine congrArg₂ (· + ·) (congrArg₂ (· + ·) ?_ ?_) ?_
  · unfold nodePart
    exact Finset.sum_congr rfl fun c _ => congrArg (· * _) ((joined_left x rbf ii jj W e c).trans (taken_apply jj hj x e c))
  · unfold nodePart
    exact Finset.sum_congr rfl fun c _ => congrArg (· * _) ((joined_mid x rbf ii jj W e c).trans (taken_apply ii hi x e c))
  · unfold radialPart
    exact Finset.sum_congr rfl fun c _ => congrArg (· * _) ((joined_right x rbf ii jj W e c).trans (embedded_apply rbf W e c))

theorem result_apply (e : Fin 320000) (k : Fin 128) : result x rbf ii jj W We b (ix2 e k) = layer x rbf ii jj W We b e k := by
  unfold result layer
  rw [act_apply, total_apply x rbf ii jj W We b hi hj e k]

end Result

/-- The run's result is `result` of the arguments. -/
theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Cert.ReferenceIdeal.Pf

end
-- ==== Proof.KI.Value.lean ====
/-
  The kernel's result over the extended reals, entry by entry: the three small tables, the rows gathered from two of them,
  and the combined edges, read as the edge layer.
-/
module

public import proofs.«01_k».proof.Proof.KI.Main
public import proofs.«01_k».proof.Proof.Spec
public import Idealize.ShloMosaic.Lib.MatmulPlain
public import Idealize.ShloMosaic.Lib.ValueLayout
public import Idealize.ShloMosaic.Lib.Pipeline.Value
public import Idealize.ShloMosaic.Lib.Pipeline.ValueKit.Geometry

@[expose] public section

noncomputable section

namespace Cert.KernelIdeal.Pf

open Cert.KernelIdeal Cert.KernelIdeal.Gen
open Idealize.ShloMosaic Idealize.ShloMosaic.TcCoe Idealize.SL.Sem Idealize.ShloMosaic.ValueIdx
open Idealize.ShloMosaic.Pipeline (Dat arrRef)
open Cert.Pf (nodeOf nodePart radialPart lin layer regroup)
open scoped BigOperators

/-! ## What the bodies compute, entry by entry -/

/-- A body's product onto zero is the sum of products. -/
theorem product_apply {M K N : ℕ} (a : FVec Ideal ⟨2, ![M, K]⟩ .f32) (b : FVec Ideal ⟨2, ![K, N]⟩ .f32) (r : Fin M) (c : Fin N) :
    FloatOps.matmul (DotDims.plain M K N) none a b (constant ⟨2, ![M, N]⟩ .f32 0x00000000#32) (ix2 r c)
      = ∑ k : Fin K, (a (ix2 r k) : EReal) * b (ix2 k c) :=
  (Ideal.matmul_plain_apply none a b _ r c).trans
    ((congrArg (· + ∑ k : Fin K, (a (ix2 r k) : EReal) * b (ix2 k c)) Ideal.ofBits_zero_f32).trans (zero_add _))

theorem pay1_apply (a : FVec Ideal S10000x128 .f32) (b : FVec Ideal S128x128 .f32) (n : Fin 10000) (k : Fin 128) :
    k0_pay1 (F := Ideal) a b (ix2 n k) = ∑ c : Fin 128, (a (ix2 n c) : EReal) * b (ix2 c k) := by
  unfold k0_pay1
  rw [shapeCast_self]
  exact product_apply a b n k

theorem pay2_apply (a : FVec Ideal S10000x128 .f32) (b : FVec Ideal S128x128 .f32) (n : Fin 10000) (k : Fin 128) :
    k0_pay2 (F := Ideal) a b (ix2 n k) = ∑ c : Fin 128, (a (ix2 n c) : EReal) * b (ix2 c k) := by
  unfold k0_pay2
  rw [shapeCast_self]
  exact product_apply a b n k

theorem pay3_apply (a : FVec Ideal S16x128 .f32) (b : FVec Ideal S128x128 .f32) (n : Fin 16) (k : Fin 128) :
    k0_pay3 (F := Ideal) a b (ix2 n k) = ∑ c : Fin 128, (a (ix2 n c) : EReal) * b (ix2 c k) := by
  unfold k0_pay3
  rw [shapeCast_self]
  exact product_apply a b n k

/-- The combining body's sum at an entry. -/
def comb (g h : FVec Ideal S4000x128 .f32) (r : FVec Ideal S4000x16 .f32) (w : FVec Ideal S16x128 .f32) (b : FVec Ideal S1x128 .f32)
    (p : Fin 4000) (q : Fin 128) : EReal :=
  (g (ix2 p q) : EReal) + h (ix2 p q) + (∑ c : Fin 16, (r (ix2 p c) : EReal) * w (ix2 c q)) + b (ix2 (0 : Fin 1) q)

theorem comb_apply (g h : FVec Ideal S4000x128 .f32) (r : FVec Ideal S4000x16 .f32) (w : FVec Ideal S16x128 .f32) (b : FVec Ideal S1x128 .f32)
    (p : Fin 4000) (q : Fin 128) :
    k2_pay1 (F := Ideal) g h r w b (ix2 p q) = comb g h r w b p q * Ideal.logistic (comb g h r w b p q) := by
  unfold k2_pay1
  rw [shapeCast_self, shapeCast_self, shapeCast_self, shapeCast_self]
  have hb : broadcastTo S4000x128 b broadcasts_S1x128_S4000x128 (ix2 p q) = b (ix2 (0 : Fin 1) q) :=
    broadcastTo_apply b broadcasts_S1x128_S4000x128 (ix2 p q) (ix2 (0 : Fin 1) q) (fun a => match a with
      | ⟨0, _⟩ => rfl
      | ⟨1, _⟩ => rfl)
  have hm := product_apply r w p q
  have hs : addf (addf (addf g h) (matmul dot_S4000x16_S16x128_S4000x128_1_0_0_1_n_n none r w (constant S4000x128 .f32 0x00000000#32)))
      (broadcastTo S4000x128 b broadcasts_S1x128_S4000x128) (ix2 p q) = comb g h r w b p q := by
    rw [addf_apply, addf_apply, addf_apply, hb]
    exact congrArg (fun z : EReal => (g (ix2 p q) : EReal) + h (ix2 p q) + z + b (ix2 (0 : Fin 1) q)) hm
  show (mulf _ (logistic _)) (ix2 p q) = _
  rw [mulf_apply, hs]
  exact congrArg (fun z : EReal => comb g h r w b p q * Ideal.logistic z) hs

/-! ## The tables' pipeline: one point, whole arrays -/

variable (V : Dev nD → Valuation τ sig (Elt Ideal)) (c : Dev nD)

theorem e0_0 : ∀ t : Fin cfg0.N, win0_0.index t = ![0, 0] := (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![0, 0] := (by decide +kernel : ∀ t : Fin grid0.N, _)
theorem e0_6 : ∀ t : Fin cfg0.N, win0_6.index t = ![0, 0] := (by decide +kernel : ∀ t : Fin grid0.N, _)
theorem e0_7 : ∀ t : Fin cfg0.N, win0_7.index t = ![0, 0] := (by decide +kernel : ∀ t : Fin grid0.N, _)

/-- At the one point each window's block is its whole array. -/
theorem blk0_0 (t : Fin cfg0.N) : blk0 V c 0 t = V c (Proc.devRef .tc main_arg0) := by
  funext y
  refine congrArg (V c (Proc.devRef .tc main_arg0)) ?_
  blk_ext [e0_0]

theorem blk0_1 (t : Fin cfg0.N) : blk0 V c 1 t = V c (Proc.devRef .tc main_v0) := by
  funext y
  refine congrArg (V c (Proc.devRef .tc main_v0)) ?_
  blk_ext [e0_1]

theorem blk0_2 (t : Fin cfg0.N) : blk0 V c 2 t = V c (Proc.devRef .tc main_v1) := by
  funext y
  refine congrArg (V c (Proc.devRef .tc main_v1)) ?_
  blk_ext [e0_2]

theorem blk0_3 (t : Fin cfg0.N) : blk0 V c 3 t = V c (Proc.devRef .tc main_arg4) := by
  funext y
  refine congrArg (V c (Proc.devRef .tc main_arg4)) ?_
  blk_ext [e0_3]

theorem blk0_4 (t : Fin cfg0.N) : blk0 V c 4 t = V c (Proc.devRef .tc main_v2) := by
  funext y
  refine congrArg (V c (Proc.devRef .tc main_v2)) ?_
  blk_ext [e0_4]

/-- The first table after the pipeline: the body's product of the whole arrays. -/
theorem table_5 : (dat0 V c).arrAt 5 cfg0.N = k0_pay1 (F := Ideal) (V c (Proc.devRef .tc main_arg0)) (V c (Proc.devRef .tc main_v0)) := by
  refine (dat0 V c).arrAt_eq_of_covers 5 _ (by decide +kernel) fun t hf y => ?_
  have hy : ((cfg0.win 5).blk t).view.emb y = y := by blk_ext [e0_5]
  rw [hy]
  show k0_pay1 (F := Ideal) (blk0 V c 0 t) (blk0 V c 1 t) y = _
  rw [blk0_0, blk0_1]

/-- The second table after the pipeline: the body's product of the whole arrays. -/
theorem table_6 : (dat0 V c).arrAt 6 cfg0.N = k0_pay2 (F := Ideal) (V c (Proc.devRef .tc main_arg0)) (V c (Proc.devRef .tc main_v1)) := by
  refine (dat0 V c).arrAt_eq_of_covers 6 _ (by decide +kernel) fun t hf y => ?_
  have hy : ((cfg0.win 6).blk t).view.emb y = y := by blk_ext [e0_6]
  rw [hy]
  show k0_pay2 (F := Ideal) (blk0 V c 0 t) (blk0 V c 2 t) y = _
  rw [blk0_0, blk0_2]

/-- The third table after the pipeline: the body's product of the whole arrays. -/
theorem table_7 : (dat0 V c).arrAt 7 cfg0.N = k0_pay3 (F := Ideal) (V c (Proc.devRef .tc main_arg4)) (V c (Proc.devRef .tc main_v2)) := by
  refine (dat0 V c).arrAt_eq_of_covers 7 _ (by decide +kernel) fun t hf y => ?_
  have hy : ((cfg0.win 7).blk t).view.emb y = y := by blk_ext [e0_7]
  rw [hy]
  show k0_pay3 (F := Ideal) (blk0 V c 3 t) (blk0 V c 4 t) y = _
  rw [blk0_3, blk0_4]

/-! ## The combining pipeline: eighty points of four thousand rows -/

/-- Row `p` of point `t`'s block, among all rows. -/
def rowAt (t : Fin cfg2.N) (p : Fin 4000) : Fin 320000 := ⟨4000 * t.val + p.val, by have := t.isLt; have h : cfg2.N = 80 := N_2; omega⟩

theorem e2_0 : ∀ t : Fin cfg2.N, win2_0.index t = ![t.val, 0] := (by decide +kernel : ∀ t : Fin grid2.N, _)
theorem e2_1 : ∀ t : Fin cfg2.N, win2_1.index t = ![t.val, 0] := (by decide +kernel : ∀ t : Fin grid2.N, _)
theorem e2_2 : ∀ t : Fin cfg2.N, win2_2.index t = ![t.val, 0] := (by decide +kernel : ∀ t : Fin grid2.N, _)
theorem e2_5 : ∀ t : Fin cfg2.N, win2_5.index t = ![t.val, 0] := (by decide +kernel : ∀ t : Fin grid2.N, _)
theorem e2_3 : ∀ t : Fin cfg2.N, win2_3.index t = ![0, 0] := (by decide +kernel : ∀ t : Fin grid2.N, _)
theorem e2_4 : ∀ t : Fin cfg2.N, win2_4.index t = ![0, 0] := (by decide +kernel : ∀ t : Fin grid2.N, _)

/-- The blocks of the edges' arrays, entry by entry; those of the third table and the bias are the whole arrays. -/
theorem blk2_0 (t : Fin cfg2.N) (p : Fin 4000) (q : Fin 128) : blk2 V c 0 t (ix2 p q) = V c (Proc.devRef .tc main_v4_0) (ix2 (rowAt t p) q) := by
  refine congrArg (V c (Proc.devRef .tc main_v4_0)) ?_
  unfold rowAt
  blk_ext [e2_0]
  exact congrArg (· + p.val) (Nat.mul_comm _ _)

theorem blk2_1 (t : Fin cfg2.N) (p : Fin 4000) (q : Fin 128) : blk2 V c 1 t (ix2 p q) = V c (Proc.devRef .tc main_v4_1) (ix2 (rowAt t p) q) := by
  refine congrArg (V c (Proc.devRef .tc main_v4_1)) ?_
  unfold rowAt
  blk_ext [e2_1]
  exact congrArg (· + p.val) (Nat.mul_comm _ _)

theorem blk2_2 (t : Fin cfg2.N) (p : Fin 4000) (q : Fin 16) : blk2 V c 2 t (ix2 p q) = V c (Proc.devRef .tc main_arg1) (ix2 (rowAt t p) q) := by
  refine congrArg (V c (Proc.devRef .tc main_arg1)) ?_
  unfold rowAt
  blk_ext [e2_2]
  exact congrArg (· + p.val) (Nat.mul_comm _ _)

theorem blk2_3 (t : Fin cfg2.N) : blk2 V c 3 t = V c (Proc.devRef .tc main_v3_2) := by
  funext y
  refine congrArg (V c (Proc.devRef .tc main_v3_2)) ?_
  blk_ext [e2_3]

theorem blk2_4 (t : Fin cfg2.N) : blk2 V c 4 t = V c (Proc.devRef .tc main_v5) := by
  funext y
  refine congrArg (V c (Proc.devRef .tc main_v5)) ?_
  blk_ext [e2_4]

/-- The combined sum of an edge's entry, from the whole arrays. -/
def edge (g h : FVec Ideal S320000x128 .f32) (r : FVec Ideal S320000x16 .f32) (w : FVec Ideal S16x128 .f32) (b : FVec Ideal S1x128 .f32)
    (e : Fin 320000) (k : Fin 128) : EReal :=
  (g (ix2 e k) : EReal) + h (ix2 e k) + (∑ a : Fin 16, (r (ix2 e a) : EReal) * w (ix2 a k)) + b (ix2 (0 : Fin 1) k)

/-- The same, of the arrays the pipeline finds. -/
def edgeOf (e : Fin 320000) (k : Fin 128) : EReal :=
  edge (V c (Proc.devRef .tc main_v4_0)) (V c (Proc.devRef .tc main_v4_1)) (V c (Proc.devRef .tc main_arg1)) (V c (Proc.devRef .tc main_v3_2))
    (V c (Proc.devRef .tc main_v5)) e k

/-- A block's sum is the whole arrays' at the block's row. -/
theorem comb_edge (G H : FVec Ideal S320000x128 .f32) (R : FVec Ideal S320000x16 .f32) (g h : FVec Ideal S4000x128 .f32) (r : FVec Ideal S4000x16 .f32)
    (w : FVec Ideal S16x128 .f32) (b : FVec Ideal S1x128 .f32) (e : Fin 320000) (p : Fin 4000) (q : Fin 128)
    (hg : g (ix2 p q) = G (ix2 e q)) (hh : h (ix2 p q) = H (ix2 e q)) (hr : ∀ a : Fin 16, r (ix2 p a) = R (ix2 e a)) :
    comb g h r w b p q = edge G H R w b e q := by
  unfold comb edge
  rw [hg, hh]
  simp only [hr]

/-- The result after the pipeline: every edge's entry is its sum times the sum's logistic. -/
def combinedArr : FVec Ideal S320000x128 .f32 := fun i => edgeOf V c (i 0) (i 1) * Ideal.logistic (edgeOf V c (i 0) (i 1))

theorem combined : (dat2 V c).arrAt 5 cfg2.N = combinedArr V c := by
  refine (dat2 V c).arrAt_eq_of_covers 5 _ (by decide +kernel) fun t hf y => ?_
  obtain ⟨p, q, rfl⟩ : ∃ (p : Fin 4000) (q : Fin 128), y = ix2 p q := ⟨y 0, y 1, eq_ix2 y⟩
  have hy : ((cfg2.win 5).blk t).view.emb (ix2 p q) = ix2 (rowAt t p) q := by
    unfold rowAt
    blk_ext [e2_5]
    exact congrArg (· + p.val) (Nat.mul_comm _ _)
  rw [hy]
  show k2_pay1 (F := Ideal) (blk2 V c 0 t) (blk2 V c 1 t) (blk2 V c 2 t) (blk2 V c 3 t) (blk2 V c 4 t) (ix2 p q)
    = edgeOf V c (rowAt t p) q * Ideal.logistic (edgeOf V c (rowAt t p) q)
  have he : comb (blk2 V c 0 t) (blk2 V c 1 t) (blk2 V c 2 t) (blk2 V c 3 t) (blk2 V c 4 t) p q = edgeOf V c (rowAt t p) q := by
    rw [blk2_3, blk2_4]
    exact comb_edge _ _ _ _ _ _ _ _ (rowAt t p) p q (blk2_0 V c t p q) (blk2_1 V c t p q) (fun a => blk2_2 V c t p a)
  rw [comb_apply, he]

/-! ## The launch's arrays -/

section Launch

variable (m : (ℓ : Loc nD τ sig) → Buf (Elt Ideal) ℓ) (d : Dev nD)

abbrev aX : FVec Ideal S10000x128 .f32 := m (d, Proc.devRef .tc main_arg0)
abbrev aR : FVec Ideal S320000x16 .f32 := m (d, Proc.devRef .tc main_arg1)
abbrev aI : IVec S320000 32 := m (d, Proc.devRef .tc main_arg2)
abbrev aJ : IVec S320000 32 := m (d, Proc.devRef .tc main_arg3)
abbrev aW : FVec Ideal S16x128 .f32 := m (d, Proc.devRef .tc main_arg4)
abbrev aE : FVec Ideal S384x128 .f32 := m (d, Proc.devRef .tc main_arg5)
abbrev aB : FVec Ideal S128 .f32 := m (d, Proc.devRef .tc main_arg6)

/-- A slice of the edge weights at an entry. -/
theorem slice_apply (off : ℕ) (ho : off + 128 ≤ 384) (h : S384x128.Slices ![off, 0] S128x128) (x : FVec Ideal S384x128 .f32) (a : Fin 128) (k : Fin 128) :
    extractStridedSlice S128x128 ![off, 0] x h (ix2 a k) = x (ix2 (⟨off + a.val, by omega⟩ : Fin 384) k) :=
  extractStridedSlice_apply _ x h (ix2 a k) _ (fun b => match b with
    | ⟨0, _⟩ => rfl
    | ⟨1, _⟩ => (Nat.zero_add _).symm)

/-- The bodies' products with a slice of the edge weights. -/
theorem pay1_slice (x : FVec Ideal S10000x128 .f32) (We : FVec Ideal S384x128 .f32) (n : Fin 10000) (k : Fin 128) :
    k0_pay1 (F := Ideal) x (extractStridedSlice S128x128 ![0, 0] We slices_S384x128_S128x128_0_0) (ix2 n k) = nodePart x We 0 (by omega) n k := by
  rw [pay1_apply]
  unfold nodePart
  exact Finset.sum_congr rfl fun a _ => congrArg (_ * ·) (slice_apply 0 (by omega) slices_S384x128_S128x128_0_0 We a k)

theorem pay2_slice (x : FVec Ideal S10000x128 .f32) (We : FVec Ideal S384x128 .f32) (n : Fin 10000) (k : Fin 128) :
    k0_pay2 (F := Ideal) x (extractStridedSlice S128x128 ![128, 0] We slices_S384x128_S128x128_128_0) (ix2 n k) = nodePart x We 128 (by omega) n k := by
  rw [pay2_apply]
  unfold nodePart
  exact Finset.sum_congr rfl fun a _ => congrArg (_ * ·) (slice_apply 128 (by omega) slices_S384x128_S128x128_128_0 We a k)

theorem pay3_slice (W : FVec Ideal S16x128 .f32) (We : FVec Ideal S384x128 .f32) (r : Fin 16) (k : Fin 128) :
    k0_pay3 (F := Ideal) W (extractStridedSlice S128x128 ![256, 0] We slices_S384x128_S128x128_256_0) (ix2 r k)
      = ∑ a : Fin 128, (W (ix2 r a) : EReal) * We (ix2 (⟨256 + a.val, by omega⟩ : Fin 384) k) := by
  rw [pay3_apply]
  exact Finset.sum_congr rfl fun a _ => congrArg (_ * ·) (slice_apply 256 (by omega) slices_S384x128_S128x128_256_0 We a k)

theorem V1_v0 : V1 m d (Proc.devRef .tc main_v0) = extractStridedSlice S128x128 ![0, 0] (aE m d) slices_S384x128_S128x128_0_0 := by
  unfold V1
  rw [HloOp.result_of_not_mem, HloOp.result_of_not_mem]
  · exact StableHlo.unary_result ..
  · rw [op1_writes]; decide
  · rw [op2_writes]; decide

theorem V1_v1 : V1 m d (Proc.devRef .tc main_v1) = extractStridedSlice S128x128 ![128, 0] (aE m d) slices_S384x128_S128x128_128_0 := by
  unfold V1
  rw [HloOp.result_of_not_mem]
  · refine (StableHlo.unary_result ..).trans (congrArg (fun z : FVec Ideal S384x128 .f32 => extractStridedSlice S128x128 ![128, 0] z slices_S384x128_S128x128_128_0) ?_)
    rw [HloOp.result_of_not_mem]
    · rfl
    · rw [op0_writes]; decide
  · rw [op2_writes]; decide

theorem V1_v2 : V1 m d (Proc.devRef .tc main_v2) = extractStridedSlice S128x128 ![256, 0] (aE m d) slices_S384x128_S128x128_256_0 := by
  unfold V1
  refine (StableHlo.unary_result ..).trans (congrArg (fun z : FVec Ideal S384x128 .f32 => extractStridedSlice S128x128 ![256, 0] z slices_S384x128_S128x128_256_0) ?_)
  rw [HloOp.result_of_not_mem, HloOp.result_of_not_mem]
  · rfl
  · rw [op0_writes]; decide
  · rw [op1_writes]; decide

theorem V2_v3_0 (n : Fin 10000) (k : Fin 128) : V2 m d (Proc.devRef .tc main_v3_0) (ix2 n k) = nodePart (aX m d) (aE m d) 0 (by omega) n k := by
  have h : V2 m d (Proc.devRef .tc main_v3_0) = _ :=
    (Pipeline.afterRegion_arr (dat0 (V1 m) d) (V1 m d) launch0.win.arr_inj 5).trans (table_5 (V1 m) d)
  rw [h, V1_v0, V1_arg m d main_arg0 (by decide)]
  exact pay1_slice (aX m d) (aE m d) n k

theorem V2_v3_1 (n : Fin 10000) (k : Fin 128) : V2 m d (Proc.devRef .tc main_v3_1) (ix2 n k) = nodePart (aX m d) (aE m d) 128 (by omega) n k := by
  have h : V2 m d (Proc.devRef .tc main_v3_1) = _ :=
    (Pipeline.afterRegion_arr (dat0 (V1 m) d) (V1 m d) launch0.win.arr_inj 6).trans (table_6 (V1 m) d)
  rw [h, V1_v1, V1_arg m d main_arg0 (by decide)]
  exact pay2_slice (aX m d) (aE m d) n k

theorem V2_v3_2 (r : Fin 16) (k : Fin 128) : V2 m d (Proc.devRef .tc main_v3_2) (ix2 r k)
    = ∑ a : Fin 128, (aW m d (ix2 r a) : EReal) * aE m d (ix2 (⟨256 + a.val, by omega⟩ : Fin 384) k) := by
  have h : V2 m d (Proc.devRef .tc main_v3_2) = _ :=
    (Pipeline.afterRegion_arr (dat0 (V1 m) d) (V1 m d) launch0.win.arr_inj 7).trans (table_7 (V1 m) d)
  rw [h, V1_v2, V1_arg m d main_arg4 (by decide)]
  exact pay3_slice (aW m d) (aE m d) r k

/-- A gathered row at an entry. -/
theorem gathered_apply (src : S10000x128.Idx → Elt Ideal .f32) (ix : S320000.Idx → Elt Ideal .i32) (e : Fin 320000) (k : Fin 128) :
    gathered src ix (ix2 e k) = src (ix2 (nodeOf (ix (ix1 e))) k) := by
  unfold gathered
  refine congrArg src (funext fun a => match a with
    | ⟨0, _⟩ => ?_
    | ⟨1, _⟩ => rfl)
  exact congrArg (fun i => nodeOf (ix i)) (funext fun b => match b with | ⟨0, _⟩ => rfl)

theorem V4_v4_0 (e : Fin 320000) (k : Fin 128) : V4 m d (Proc.devRef .tc main_v4_0) (ix2 e k)
    = nodePart (aX m d) (aE m d) 0 (by omega) (nodeOf (aJ m d (ix1 e))) k := by
  have h : V4 m d (Proc.devRef .tc main_v4_0) = gOut (V2 m) d := by
    unfold V4 V3
    rw [HloOp.result_of_not_mem, Function.update_of_ne (by decide), Function.update_self]
    rw [op5_writes]; decide
  rw [h]
  unfold gOut
  rw [gathered_apply]
  show V2 m d (Proc.devRef .tc main_v3_0) (ix2 (nodeOf (V2 m d (Proc.devRef .tc main_arg3) (ix1 e))) k) = _
  rw [V2_arg m d main_arg3 (by decide), V2_v3_0]

theorem V4_v4_1 (e : Fin 320000) (k : Fin 128) : V4 m d (Proc.devRef .tc main_v4_1) (ix2 e k)
    = nodePart (aX m d) (aE m d) 128 (by omega) (nodeOf (aI m d (ix1 e))) k := by
  have h : V4 m d (Proc.devRef .tc main_v4_1) = hOut (V2 m) d := by
    unfold V4 V3
    rw [HloOp.result_of_not_mem, Function.update_self]
    rw [op5_writes]; decide
  rw [h]
  unfold hOut
  rw [gathered_apply]
  show V2 m d (Proc.devRef .tc main_v3_1) (ix2 (nodeOf (V2 m d (Proc.devRef .tc main_arg2) (ix1 e))) k) = _
  rw [V2_arg m d main_arg2 (by decide), V2_v3_1]

theorem V4_v3_2 : V4 m d (Proc.devRef .tc main_v3_2) = V2 m d (Proc.devRef .tc main_v3_2) := by
  unfold V4 V3
  rw [HloOp.result_of_not_mem, Function.update_of_ne (by decide), Function.update_of_ne (by decide)]
  rw [op5_writes]; decide

theorem V4_v5 (k : Fin 128) : V4 m d (Proc.devRef .tc main_v5) (ix2 (0 : Fin 1) k) = aB m d (ix1 k) := by
  have h3 : V3 m d (Proc.devRef .tc main_arg6) = aB m d := by
    unfold V3
    rw [Function.update_of_ne (by decide), Function.update_of_ne (by decide)]
    exact V2_arg m d main_arg6 (by decide)
  have h : V4 m d (Proc.devRef .tc main_v5) = shapeCast S1x128 (V3 m d (Proc.devRef .tc main_arg6)) shapeCasts_S128_S1x128 :=
    StableHlo.reshape_result ..
  rw [h, h3]
  exact shapeCast_a_1a_apply (aB m d) shapeCasts_S128_S1x128 0 k

/-- An edge's sum from its four parts. -/
theorem edge_lin (g h : FVec Ideal S320000x128 .f32) (r : FVec Ideal S320000x16 .f32) (w : FVec Ideal S16x128 .f32) (b : FVec Ideal S1x128 .f32)
    (e : Fin 320000) (k : Fin 128) (p q s t : EReal) (hg : g (ix2 e k) = p) (hh : h (ix2 e k) = q) (hb : b (ix2 (0 : Fin 1) k) = t)
    (hs : (∑ a : Fin 16, (r (ix2 e a) : EReal) * w (ix2 a k)) = s) : edge g h r w b e k = p + q + s + t := by
  unfold edge
  rw [hg, hh, hb, hs]

/-- The radial share grouped as the kernel groups it, where its three factors are finite. -/
theorem radial_eq (rbf : FVec Ideal S320000x16 .f32) (W : FVec Ideal S16x128 .f32) (We : FVec Ideal S384x128 .f32) (w : FVec Ideal S16x128 .f32)
    (h : ∀ (r : Fin 16) (k : Fin 128), w (ix2 r k) = ∑ a : Fin 128, (W (ix2 r a) : EReal) * We (ix2 (⟨256 + a.val, by omega⟩ : Fin 384) k))
    (hr : ∀ i, (rbf i : EReal) ≠ ⊤ ∧ (rbf i : EReal) ≠ ⊥) (hw : ∀ i, (W i : EReal) ≠ ⊤ ∧ (W i : EReal) ≠ ⊥)
    (he : ∀ (a : Fin 128) (k : Fin 128), (We (ix2 (⟨256 + a.val, by omega⟩ : Fin 384) k) : EReal) ≠ ⊤ ∧ (We (ix2 (⟨256 + a.val, by omega⟩ : Fin 384) k) : EReal) ≠ ⊥)
    (e : Fin 320000) (k : Fin 128) : (∑ a : Fin 16, (rbf (ix2 e a) : EReal) * w (ix2 a k)) = radialPart rbf W We e k := by
  unfold radialPart
  simp only [h]
  exact regroup (fun r => (rbf (ix2 e r) : EReal)) (fun r a => (W (ix2 r a) : EReal))
    (fun a => (We (ix2 (⟨256 + a.val, by omega⟩ : Fin 384) k) : EReal)) (fun r => hr _) (fun r a => hw _) (fun a => he a k)

/-- With finite radial entries, embedding weights and last rows of the edge weights, an edge's sum is the layer's. -/
theorem edge_eq (hr : ∀ i, (aR m d i : EReal) ≠ ⊤ ∧ (aR m d i : EReal) ≠ ⊥) (hw : ∀ i, (aW m d i : EReal) ≠ ⊤ ∧ (aW m d i : EReal) ≠ ⊥)
    (he : ∀ (a : Fin 128) (k : Fin 128), (aE m d (ix2 (⟨256 + a.val, by omega⟩ : Fin 384) k) : EReal) ≠ ⊤ ∧ (aE m d (ix2 (⟨256 + a.val, by omega⟩ : Fin 384) k) : EReal) ≠ ⊥)
    (e : Fin 320000) (k : Fin 128) :
    edgeOf (V4 m) d e k = lin (aX m d) (aR m d) (aI m d) (aJ m d) (aW m d) (aE m d) (aB m d) e k := by
  unfold edgeOf lin
  refine edge_lin _ _ _ _ _ e k _ _ _ _ (V4_v4_0 m d e k) (V4_v4_1 m d e k) (V4_v5 m d k) ?_
  rw [V4_arg m d main_arg1 (by decide), V4_v3_2]
  exact radial_eq (aR m d) (aW m d) (aE m d) _ (V2_v3_2 m d) hr hw he e k

/-- The kernel's result is the layer. -/
theorem V5_v6 (hr : ∀ i, (aR m d i : EReal) ≠ ⊤ ∧ (aR m d i : EReal) ≠ ⊥) (hw : ∀ i, (aW m d i : EReal) ≠ ⊤ ∧ (aW m d i : EReal) ≠ ⊥)
    (he : ∀ (a : Fin 128) (k : Fin 128), (aE m d (ix2 (⟨256 + a.val, by omega⟩ : Fin 384) k) : EReal) ≠ ⊤ ∧ (aE m d (ix2 (⟨256 + a.val, by omega⟩ : Fin 384) k) : EReal) ≠ ⊥)
    (e : Fin 320000) (k : Fin 128) :
    V5 m d (Proc.devRef .tc main_v6) (ix2 e k) = layer (aX m d) (aR m d) (aI m d) (aJ m d) (aW m d) (aE m d) (aB m d) e k := by
  have h : V5 m d (Proc.devRef .tc main_v6) = _ :=
    (Pipeline.afterRegion_arr (dat2 (V4 m) d) (V4 m d) launch2.win.arr_inj 5).trans (combined (V4 m) d)
  rw [h]
  show edgeOf (V4 m) d e k * Ideal.logistic (edgeOf (V4 m) d e k) = _
  rw [edge_eq m d hr hw he e k]
  rfl

end Launch

end Cert.KernelIdeal.Pf

end
-- ==== Proof.Algebraic.lean ====
/-
  The kernel and the reference end with equal results over the extended reals: both results are the edge layer of the
  arguments.
-/
module

public import proofs.«01_k».proof.Proof.KI.Frame
public import proofs.«01_k».proof.Proof.KI.Value
public import proofs.«01_k».proof.Proof.Ref

@[expose] public section

noncomputable section

namespace Cert.Pf

open Idealize.ShloMosaic Idealize.ShloMosaic.TcCoe Idealize.SL.Sem Idealize.ShloMosaic.ValueIdx

/-- On every device the second printed precondition makes the kernel's result the edge layer of its arguments, and the
    reference's result of the same arguments too. -/
theorem results_agree (m : (ℓ : Loc Cert.KernelIdeal.nD Cert.KernelIdeal.τ Cert.KernelIdeal.sig) → Buf (Elt Ideal) ℓ)
    (hpre : Cert.Pre_KernelIdeal_in_rows_finite m) (c : Dev Cert.KernelIdeal.nD) :
    Cert.ReferenceIdeal.Pf.result (Cert.KernelIdeal.Pf.aX m c) (Cert.KernelIdeal.Pf.aR m c) (Cert.KernelIdeal.Pf.aI m c) (Cert.KernelIdeal.Pf.aJ m c)
      (Cert.KernelIdeal.Pf.aW m c) (Cert.KernelIdeal.Pf.aE m c) (Cert.KernelIdeal.Pf.aB m c)
      = Cert.KernelIdeal.Pf.V5 m c (Proc.devRef .tc Cert.KernelIdeal.main_v6) := by
  obtain ⟨⟨hj, hi⟩, hr, hw, he⟩ := rows_of_pre_finite _ _ _ _ _ _ _ (hpre c)
  have he' : ∀ (a : Fin 128) (k : Fin 128), (Cert.KernelIdeal.Pf.aE m c (ix2 (⟨256 + a.val, by omega⟩ : Fin 384) k) : EReal) ≠ ⊤
      ∧ (Cert.KernelIdeal.Pf.aE m c (ix2 (⟨256 + a.val, by omega⟩ : Fin 384) k) : EReal) ≠ ⊥ := fun a k => by
    have h := he (ix2 a k)
    rwa [Cert.KernelIdeal.Pf.slice_apply 256 (by omega) _ _ a k] at h
  funext i
  obtain ⟨e, k, rfl⟩ : ∃ (e : Fin 320000) (k : Fin 128), i = ix2 e k := ⟨i 0, i 1, eq_ix2 i⟩
  rw [Cert.ReferenceIdeal.Pf.result_apply _ _ _ _ _ _ _ hi hj e k]
  exact (Cert.KernelIdeal.Pf.V5_v6 m c hr hw he' e k).symm

/-- The result's buffer is among those the run speaks of. -/
theorem v6_held : Proc.devRef (τ := Cert.KernelIdeal.τ) .tc Cert.KernelIdeal.main_v6 ∈ Pipeline.ucRefs Cert.KernelIdeal.τ Cert.KernelIdeal.sig := by decide

/-- `Cert.algebraic_KernelIdeal_ReferenceIdeal_pre_in_rows_finite`. -/
theorem algebraic : Cert.algebraic_KernelIdeal_ReferenceIdeal_pre_in_rows_finite := fun m ρ m' ρ' hpre hargs =>
  ⟨fun c => Cert.KernelIdeal.Pf.V5 m c (Proc.devRef .tc Cert.KernelIdeal.main_v6),
    (θ_run Cert.KernelIdeal.defs _ _).mono
      (fun r h c => ⟨h.1 c (Proc.devRef .tc Cert.KernelIdeal.main_v6) v6_held, Cert.KernelIdeal.Pf.args_kept m _ h.1 c⟩)
      (Cert.KernelIdeal.Pf.run_main (F := Ideal) m ρ (Cert.KernelIdeal.Pf.ok_of_pre_finite m hpre)),
    (θ_run Cert.ReferenceIdeal.defs _ _).mono
      (fun r h c => by
        refine ⟨(h c).1.trans ((Cert.ReferenceIdeal.Pf.res_eq m' c).trans ?_), (h c).2⟩
        obtain ⟨a0, a1, a2, a3, a4, a5, a6⟩ := hargs c
        rw [a0, a1, a2, a3, a4, a5, a6]
        exact results_agree m hpre c)
      (Cert.ReferenceIdeal.Value.run (F := Ideal) m' ρ')⟩

end Cert.Pf

end
-- ==== Proof.lean ====
/-
  The proof of `Cert.Claim`: the kernel runs without fault, leaves its arguments unchanged and ends quiescent, at the
  machine's words and over the extended reals; so does the reference; and over the extended reals, where the index words
  name rows of the node table and the radial factors are finite, the two results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_rows
public import proofs.«01_k».proof.Proof.Gen.Pre_in_rows_finite
public import proofs.«01_k».proof.Proof.K.Frame
public import proofs.«01_k».proof.Proof.KI.Frame
public import proofs.«01_k».proof.Proof.Ref
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_in_rows.Gen.facts, Cert.Pre_in_rows_finite.Gen.facts,
    Cert.Kernel.Pf.frame_kernel, Cert.KernelIdeal.Pf.frame_kernel, Cert.KernelIdeal.Pf.frame_kernel_finite,
    Cert.ReferenceIdeal.Pf.frame_ref, Cert.ReferenceIdeal.Pf.frame_ref_finite, trivial, Cert.Pf.algebraic⟩

end Cert.Proof

end
